-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 256, 512]⟩ ⟨3, ![32, 256, 512]⟩ 0 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![32, 512]⟩ ⟨2, ![512, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S512x256 : Shape := ⟨2, ![512, 256]⟩
abbrev S256x32 : Shape := ⟨2, ![256, 32]⟩
abbrev S512x1 : Shape := ⟨2, ![512, 1]⟩
abbrev S2x256x512 : Shape := ⟨3, ![2, 256, 512]⟩
abbrev S_ : Shape := ⟨0, ![]⟩

class Facts : Prop where
  bcast_S_S512x1 : S_.BroadcastsInDim S512x1 (![] : Fin 0 → Fin S512x1.rank)
  reducesTo_S512x1_S_d0_1 : S512x1.ReducesTo [0, 1] S_
  h_S_ : 0 < S_.numel

variable [Facts]

def fn {F : FTy → Type} [FloatOps F] (main_arg0 : FVec F S512x256 .f32) (main_arg1 : FVec F S256x32 .f32) (main_arg2 : IVec S512x1 32) (main_arg3 : FVec F S2x256x512 .f32) : IVec S_ 1 :=
  let main_c : IVec S_ 32 := constantI S_ 32 0#32
  let main_v0 : IVec S512x1 32 := broadcastInDim S512x1 ![] bcast_S_S512x1 main_c
  let main_v1 : IVec S512x1 1 := cmpi .sge main_arg2 main_v0
  let main_c_0 : IVec S_ 32 := constantI S_ 32 32#32
  let main_v2 : IVec S512x1 32 := broadcastInDim S512x1 ![] bcast_S_S512x1 main_c_0
  let main_v3 : IVec S512x1 1 := cmpi .slt main_arg2 main_v2
  let main_v4 : IVec S512x1 1 := andi main_v1 main_v3
  let main_c_1 : IVec S_ 1 := constantI S_ 1 1#1
  let main_v5 : IVec S_ 1 := (fun x v => Host.reduce IntOp.andi x v reducesTo_S512x1_S_d0_1 h_S_) main_v4 main_c_1
  main_v5
-- ==== Pre_routed_ReferenceIdeal.lean ====
abbrev S512x256 : Shape := ⟨2, ![512, 256]⟩
abbrev S256x32 : Shape := ⟨2, ![256, 32]⟩
abbrev S512x1 : Shape := ⟨2, ![512, 1]⟩
abbrev S32x256x512 : Shape := ⟨3, ![32, 256, 512]⟩
abbrev S_ : Shape := ⟨0, ![]⟩

class Facts : Prop where
  bcast_S_S512x1 : S_.BroadcastsInDim S512x1 (![] : Fin 0 → Fin S512x1.rank)
  reducesTo_S512x1_S_d0_1 : S512x1.ReducesTo [0, 1] S_
  h_S_ : 0 < S_.numel

variable [Facts]

def fn {F : FTy → Type} [FloatOps F] (main_arg0 : FVec F S512x256 .f32) (main_arg1 : FVec F S256x32 .f32) (main_arg2 : IVec S512x1 32) (main_arg3 : FVec F S32x256x512 .f32) : IVec S_ 1 :=
  let main_c : IVec S_ 32 := constantI S_ 32 0#32
  let main_v0 : IVec S512x1 32 := broadcastInDim S512x1 ![] bcast_S_S512x1 main_c
  let main_v1 : IVec S512x1 1 := cmpi .sge main_arg2 main_v0
  let main_c_0 : IVec S_ 32 := constantI S_ 32 32#32
  let main_v2 : IVec S512x1 32 := broadcastInDim S512x1 ![] bcast_S_S512x1 main_c_0
  let main_v3 : IVec S512x1 1 := cmpi .slt main_arg2 main_v2
  let main_v4 : IVec S512x1 1 := andi main_v1 main_v3
  let main_c_1 : IVec S_ 1 := constantI S_ 1 1#1
  let main_v5 : IVec S_ 1 := (fun x v => Host.reduce IntOp.andi x v reducesTo_S512x1_S_d0_1 h_S_) main_v4 main_c_1
  main_v5
-- ==== Kernel.lean ====
abbrev S512x256 : Shape := ⟨2, ![512, 256]⟩
abbrev S256x32 : Shape := ⟨2, ![256, 32]⟩
abbrev S512x1 : Shape := ⟨2, ![512, 1]⟩
abbrev S2x256x512 : Shape := ⟨3, ![2, 256, 512]⟩
abbrev S32x512 : Shape := ⟨2, ![32, 512]⟩
abbrev S24x512 : Shape := ⟨2, ![24, 512]⟩
abbrev S384x512 : Shape := ⟨2, ![384, 512]⟩
abbrev S16 : Shape := ⟨1, ![16]⟩
abbrev S_ : Shape := ⟨0, ![]⟩
abbrev S1x512 : Shape := ⟨2, ![1, 512]⟩
abbrev S512x512 : Shape := ⟨2, ![512, 512]⟩
abbrev S512 : Shape := ⟨1, ![512]⟩
abbrev S24x256 : Shape := ⟨2, ![24, 256]⟩
abbrev S12x256 : Shape := ⟨2, ![12, 256]⟩
abbrev S1x256x512 : Shape := ⟨3, ![1, 256, 512]⟩
abbrev S256x512 : Shape := ⟨2, ![256, 512]⟩
abbrev S12x512 : Shape := ⟨2, ![12, 512]⟩
abbrev S1 : Shape := ⟨1, ![1]⟩
abbrev S32x1 : Shape := ⟨2, ![32, 1]⟩
abbrev S32 : Shape := ⟨1, ![32]⟩
abbrev S32x384 : Shape := ⟨2, ![32, 384]⟩

abbrev nBuf : Space → Nat
  | .hbm => 5
  | .vmem => 6
  | .smem => 0
  | _ => 0

abbrev bufTy : (tb : Table) → Fin (tcTables nBuf tb) → BufTy
  | .hbm, ⟨0, _⟩ => ⟨S512x256, .f32⟩
  | .hbm, ⟨1, _⟩ => ⟨S256x32, .f32⟩
  | .hbm, ⟨2, _⟩ => ⟨S512x1, .i32⟩
  | .hbm, ⟨3, _⟩ => ⟨S2x256x512, .f32⟩
  | .hbm, ⟨4, _⟩ => ⟨S32x512, .f32⟩
  | .local _ .vmem, ⟨0, _⟩ => ⟨S512x256, .f32⟩
  | .local _ .vmem, ⟨1, _⟩ => ⟨S512x1, .i32⟩
  | .local _ .vmem, ⟨2, _⟩ => ⟨S2x256x512, .f32⟩
  | .local _ .vmem, ⟨3, _⟩ => ⟨S32x512, .f32⟩
  | .local _ .vmem, ⟨4, _⟩ => ⟨S24x512, .bf16⟩
  | .local _ .vmem, ⟨5, _⟩ => ⟨S384x512, .bf16⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v5 : BitVec 32 := Scalar.addi v2 c1_i32_0
  let c16_i32_1 : BitVec 32 := 16#32
  let v6 : BitVec 32 := Scalar.remsi v5 c16_i32_1
  let c1_i32_3 : BitVec 32 := 1#32
  let v7 : BitVec 32 := Scalar.muli v6 c1_i32_3
  let v8 : BitVec 32 := Scalar.addi c0_i32 v7
  v8.toNat
def k0_dev2 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_4 : BitVec 32 := 2#32
  let v9 : BitVec 32 := Scalar.addi v2 c2_i32_4
  let c16_i32_5 : BitVec 32 := 16#32
  let v10 : BitVec 32 := Scalar.remsi v9 c16_i32_5
  let c1_i32_7 : BitVec 32 := 1#32
  let v11 : BitVec 32 := Scalar.muli v10 c1_i32_7
  let v12 : BitVec 32 := Scalar.addi c0_i32_8 v11
  v12.toNat
def k0_dev3 (d0 : Dev nD) : Nat :=
  let c0_i32_12 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v13 : BitVec 32 := Scalar.addi v2 c3_i32
  let c16_i32_9 : BitVec 32 := 16#32
  let v14 : BitVec 32 := Scalar.remsi v13 c16_i32_9
  let c1_i32_11 : BitVec 32 := 1#32
  let v15 : BitVec 32 := Scalar.muli v14 c1_i32_11
  let v16 : BitVec 32 := Scalar.addi c0_i32_12 v15
  v16.toNat
def k0_dev4 (d0 : Dev nD) : Nat :=
  let c0_i32_16 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v17 : BitVec 32 := Scalar.addi v2 c4_i32
  let c16_i32_13 : BitVec 32 := 16#32
  let v18 : BitVec 32 := Scalar.remsi v17 c16_i32_13
  let c1_i32_15 : BitVec 32 := 1#32
  let v19 : BitVec 32 := Scalar.muli v18 c1_i32_15
  let v20 : BitVec 32 := Scalar.addi c0_i32_16 v19
  v20.toNat
def k0_dev5 (d0 : Dev nD) : Nat :=
  let c0_i32_20 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v21 : BitVec 32 := Scalar.addi v2 c5_i32
  let c16_i32_17 : BitVec 32 := 16#32
  let v22 : BitVec 32 := Scalar.remsi v21 c16_i32_17
  let c1_i32_19 : BitVec 32 := 1#32
  let v23 : BitVec 32 := Scalar.muli v22 c1_i32_19
  let v24 : BitVec 32 := Scalar.addi c0_i32_20 v23
  v24.toNat
def k0_dev6 (d0 : Dev nD) : Nat :=
  let c0_i32_24 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v25 : BitVec 32 := Scalar.addi v2 c6_i32
  let c16_i32_21 : BitVec 32 := 16#32
  let v26 : BitVec 32 := Scalar.remsi v25 c16_i32_21
  let c1_i32_23 : BitVec 32 := 1#32
  let v27 : BitVec 32 := Scalar.muli v26 c1_i32_23
  let v28 : BitVec 32 := Scalar.addi c0_i32_24 v27
  v28.toNat
def k0_dev7 (d0 : Dev nD) : Nat :=
  let c0_i32_28 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v29 : BitVec 32 := Scalar.addi v2 c7_i32
  let c16_i32_25 : BitVec 32 := 16#32
  let v30 : BitVec 32 := Scalar.remsi v29 c16_i32_25
  let c1_i32_27 : BitVec 32 := 1#32
  let v31 : BitVec 32 := Scalar.muli v30 c1_i32_27
  let v32 : BitVec 32 := Scalar.addi c0_i32_28 v31
  v32.toNat
def k0_dev8 (d0 : Dev nD) : Nat :=
  let c0_i32_32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v33 : BitVec 32 := Scalar.addi v2 c8_i32
  let c16_i32_29 : BitVec 32 := 16#32
  let v34 : BitVec 32 := Scalar.remsi v33 c16_i32_29
  let c1_i32_31 : BitVec 32 := 1#32
  let v35 : BitVec 32 := Scalar.muli v34 c1_i32_31
  let v36 : BitVec 32 := Scalar.addi c0_i32_32 v35
  v36.toNat
def k0_dev9 (d0 : Dev nD) : Nat :=
  let c0_i32_36 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v37 : BitVec 32 := Scalar.addi v2 c9_i32
  let c16_i32_33 : BitVec 32 := 16#32
  let v38 : BitVec 32 := Scalar.remsi v37 c16_i32_33
  let c1_i32_35 : BitVec 32 := 1#32
  let v39 : BitVec 32 := Scalar.muli v38 c1_i32_35
  let v40 : BitVec 32 := Scalar.addi c0_i32_36 v39
  v40.toNat
def k0_dev10 (d0 : Dev nD) : Nat :=
  let c0_i32_40 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v41 : BitVec 32 := Scalar.addi v2 c10_i32
  let c16_i32_37 : BitVec 32 := 16#32
  let v42 : BitVec 32 := Scalar.remsi v41 c16_i32_37
  let c1_i32_39 : BitVec 32 := 1#32
  let v43 : BitVec 32 := Scalar.muli v42 c1_i32_39
  let v44 : BitVec 32 := Scalar.addi c0_i32_40 v43
  v44.toNat
def k0_dev11 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v45 : BitVec 32 := Scalar.addi v2 c11_i32
  let c16_i32_41 : BitVec 32 := 16#32
  let v46 : BitVec 32 := Scalar.remsi v45 c16_i32_41
  let c1_i32_43 : BitVec 32 := 1#32
  let v47 : BitVec 32 := Scalar.muli v46 c1_i32_43
  let v48 : BitVec 32 := Scalar.addi c0_i32_44 v47
  v48.toNat
def k0_dev12 (d0 : Dev nD) : Nat :=
  let c0_i32_48 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v49 : BitVec 32 := Scalar.addi v2 c12_i32
  let c16_i32_45 : BitVec 32 := 16#32
  let v50 : BitVec 32 := Scalar.remsi v49 c16_i32_45
  let c1_i32_47 : BitVec 32 := 1#32
  let v51 : BitVec 32 := Scalar.muli v50 c1_i32_47
  let v52 : BitVec 32 := Scalar.addi c0_i32_48 v51
  v52.toNat
def k0_dev13 (d0 : Dev nD) : Nat :=
  let c0_i32_52 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v53 : BitVec 32 := Scalar.addi v2 c13_i32
  let c16_i32_49 : BitVec 32 := 16#32
  let v54 : BitVec 32 := Scalar.remsi v53 c16_i32_49
  let c1_i32_51 : BitVec 32 := 1#32
  let v55 : BitVec 32 := Scalar.muli v54 c1_i32_51
  let v56 : BitVec 32 := Scalar.addi c0_i32_52 v55
  v56.toNat
def k0_dev14 (d0 : Dev nD) : Nat :=
  let c0_i32_56 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v57 : BitVec 32 := Scalar.addi v2 c14_i32
  let c16_i32_53 : BitVec 32 := 16#32
  let v58 : BitVec 32 := Scalar.remsi v57 c16_i32_53
  let c1_i32_55 : BitVec 32 := 1#32
  let v59 : BitVec 32 := Scalar.muli v58 c1_i32_55
  let v60 : BitVec 32 := Scalar.addi c0_i32_56 v59
  v60.toNat
def k0_dev15 (d0 : Dev nD) : Nat :=
  let c0_i32_60 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v61 : BitVec 32 := Scalar.addi v2 c15_i32
  let c16_i32_57 : BitVec 32 := 16#32
  let v62 : BitVec 32 := Scalar.remsi v61 c16_i32_57
  let c1_i32_59 : BitVec 32 := 1#32
  let v63 : BitVec 32 := Scalar.muli v62 c1_i32_59
  let v64 : BitVec 32 := Scalar.addi c0_i32_60 v63
  v64.toNat
def k0_dev16 (d0 : Dev nD) : Nat :=
  let c0_i32_99 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_94 : BitVec 32 := 1#32
  let v154 : BitVec 32 := Scalar.addi v2 c1_i32_94
  let c16_i32_95 : BitVec 32 := 16#32
  let v155 : BitVec 32 := Scalar.remsi v154 c16_i32_95
  let c1_i32_98 : BitVec 32 := 1#32
  let v156 : BitVec 32 := Scalar.muli v155 c1_i32_98
  let v157 : BitVec 32 := Scalar.addi c0_i32_99 v156
  v157.toNat
def k0_dev17 (d0 : Dev nD) : Nat :=
  let c0_i32_106 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_101 : BitVec 32 := 2#32
  let v163 : BitVec 32 := Scalar.addi v2 c2_i32_101
  let c16_i32_102 : BitVec 32 := 16#32
  let v164 : BitVec 32 := Scalar.remsi v163 c16_i32_102
  let c1_i32_105 : BitVec 32 := 1#32
  let v165 : BitVec 32 := Scalar.muli v164 c1_i32_105
  let v166 : BitVec 32 := Scalar.addi c0_i32_106 v165
  v166.toNat
def k0_dev18 (d0 : Dev nD) : Nat :=
  let c0_i32_113 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_108 : BitVec 32 := 3#32
  let v172 : BitVec 32 := Scalar.addi v2 c3_i32_108
  let c16_i32_109 : BitVec 32 := 16#32
  let v173 : BitVec 32 := Scalar.remsi v172 c16_i32_109
  let c1_i32_112 : BitVec 32 := 1#32
  let v174 : BitVec 32 := Scalar.muli v173 c1_i32_112
  let v175 : BitVec 32 := Scalar.addi c0_i32_113 v174
  v175.toNat
def k0_dev19 (d0 : Dev nD) : Nat :=
  let c0_i32_120 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_115 : BitVec 32 := 4#32
  let v181 : BitVec 32 := Scalar.addi v2 c4_i32_115
  let c16_i32_116 : BitVec 32 := 16#32
  let v182 : BitVec 32 := Scalar.remsi v181 c16_i32_116
  let c1_i32_119 : BitVec 32 := 1#32
  let v183 : BitVec 32 := Scalar.muli v182 c1_i32_119
  let v184 : BitVec 32 := Scalar.addi c0_i32_120 v183
  v184.toNat
def k0_dev20 (d0 : Dev nD) : Nat :=
  let c0_i32_127 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_122 : BitVec 32 := 5#32
  let v190 : BitVec 32 := Scalar.addi v2 c5_i32_122
  let c16_i32_123 : BitVec 32 := 16#32
  let v191 : BitVec 32 := Scalar.remsi v190 c16_i32_123
  let c1_i32_126 : BitVec 32 := 1#32
  let v192 : BitVec 32 := Scalar.muli v191 c1_i32_126
  let v193 : BitVec 32 := Scalar.addi c0_i32_127 v192
  v193.toNat
def k0_dev21 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_129 : BitVec 32 := 6#32
  let v199 : BitVec 32 := Scalar.addi v2 c6_i32_129
  let c16_i32_130 : BitVec 32 := 16#32
  let v200 : BitVec 32 := Scalar.remsi v199 c16_i32_130
  let c1_i32_133 : BitVec 32 := 1#32
  let v201 : BitVec 32 := Scalar.muli v200 c1_i32_133
  let v202 : BitVec 32 := Scalar.addi c0_i32_134 v201
  v202.toNat
def k0_dev22 (d0 : Dev nD) : Nat :=
  let c0_i32_141 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_136 : BitVec 32 := 7#32
  let v208 : BitVec 32 := Scalar.addi v2 c7_i32_136
  let c16_i32_137 : BitVec 32 := 16#32
  let v209 : BitVec 32 := Scalar.remsi v208 c16_i32_137
  let c1_i32_140 : BitVec 32 := 1#32
  let v210 : BitVec 32 := Scalar.muli v209 c1_i32_140
  let v211 : BitVec 32 := Scalar.addi c0_i32_141 v210
  v211.toNat
def k0_dev23 (d0 : Dev nD) : Nat :=
  let c0_i32_148 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_143 : BitVec 32 := 8#32
  let v217 : BitVec 32 := Scalar.addi v2 c8_i32_143
  let c16_i32_144 : BitVec 32 := 16#32
  let v218 : BitVec 32 := Scalar.remsi v217 c16_i32_144
  let c1_i32_147 : BitVec 32 := 1#32
  let v219 : BitVec 32 := Scalar.muli v218 c1_i32_147
  let v220 : BitVec 32 := Scalar.addi c0_i32_148 v219
  v220.toNat
def k0_dev24 (d0 : Dev nD) : Nat :=
  let c0_i32_155 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_150 : BitVec 32 := 9#32
  let v226 : BitVec 32 := Scalar.addi v2 c9_i32_150
  let c16_i32_151 : BitVec 32 := 16#32
  let v227 : BitVec 32 := Scalar.remsi v226 c16_i32_151
  let c1_i32_154 : BitVec 32 := 1#32
  let v228 : BitVec 32 := Scalar.muli v227 c1_i32_154
  let v229 : BitVec 32 := Scalar.addi c0_i32_155 v228
  v229.toNat
def k0_dev25 (d0 : Dev nD) : Nat :=
  let c0_i32_162 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_157 : BitVec 32 := 10#32
  let v235 : BitVec 32 := Scalar.addi v2 c10_i32_157
  let c16_i32_158 : BitVec 32 := 16#32
  let v236 : BitVec 32 := Scalar.remsi v235 c16_i32_158
  let c1_i32_161 : BitVec 32 := 1#32
  let v237 : BitVec 32 := Scalar.muli v236 c1_i32_161
  let v238 : BitVec 32 := Scalar.addi c0_i32_162 v237
  v238.toNat
def k0_dev26 (d0 : Dev nD) : Nat :=
  let c0_i32_169 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_164 : BitVec 32 := 11#32
  let v244 : BitVec 32 := Scalar.addi v2 c11_i32_164
  let c16_i32_165 : BitVec 32 := 16#32
  let v245 : BitVec 32 := Scalar.remsi v244 c16_i32_165
  let c1_i32_168 : BitVec 32 := 1#32
  let v246 : BitVec 32 := Scalar.muli v245 c1_i32_168
  let v247 : BitVec 32 := Scalar.addi c0_i32_169 v246
  v247.toNat
def k0_dev27 (d0 : Dev nD) : Nat :=
  let c0_i32_176 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_171 : BitVec 32 := 12#32
  let v253 : BitVec 32 := Scalar.addi v2 c12_i32_171
  let c16_i32_172 : BitVec 32 := 16#32
  let v254 : BitVec 32 := Scalar.remsi v253 c16_i32_172
  let c1_i32_175 : BitVec 32 := 1#32
  let v255 : BitVec 32 := Scalar.muli v254 c1_i32_175
  let v256 : BitVec 32 := Scalar.addi c0_i32_176 v255
  v256.toNat
def k0_dev28 (d0 : Dev nD) : Nat :=
  let c0_i32_183 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_178 : BitVec 32 := 13#32
  let v262 : BitVec 32 := Scalar.addi v2 c13_i32_178
  let c16_i32_179 : BitVec 32 := 16#32
  let v263 : BitVec 32 := Scalar.remsi v262 c16_i32_179
  let c1_i32_182 : BitVec 32 := 1#32
  let v264 : BitVec 32 := Scalar.muli v263 c1_i32_182
  let v265 : BitVec 32 := Scalar.addi c0_i32_183 v264
  v265.toNat
def k0_dev29 (d0 : Dev nD) : Nat :=
  let c0_i32_190 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_185 : BitVec 32 := 14#32
  let v271 : BitVec 32 := Scalar.addi v2 c14_i32_185
  let c16_i32_186 : BitVec 32 := 16#32
  let v272 : BitVec 32 := Scalar.remsi v271 c16_i32_186
  let c1_i32_189 : BitVec 32 := 1#32
  let v273 : BitVec 32 := Scalar.muli v272 c1_i32_189
  let v274 : BitVec 32 := Scalar.addi c0_i32_190 v273
  v274.toNat
def k0_dev30 (d0 : Dev nD) : Nat :=
  let c0_i32_197 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_192 : BitVec 32 := 15#32
  let v280 : BitVec 32 := Scalar.addi v2 c15_i32_192
  let c16_i32_193 : BitVec 32 := 16#32
  let v281 : BitVec 32 := Scalar.remsi v280 c16_i32_193
  let c1_i32_196 : BitVec 32 := 1#32
  let v282 : BitVec 32 := Scalar.muli v281 c1_i32_196
  let v283 : BitVec 32 := Scalar.addi c0_i32_197 v282
  v283.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32 : BitVec 32 := 32#32
  let v289 : BitVec 32 := Scalar.muli v2 c32_i32
  let v290 : Index := Scalar.indexCast v289
  let c0_199 : Index := 0#32
  ![v290.toNat, 0]
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S512x256 : Shape := ⟨2, ![512, 256]⟩
abbrev S256x32 : Shape := ⟨2, ![256, 32]⟩
abbrev S512x1 : Shape := ⟨2, ![512, 1]⟩
abbrev S32x256x512 : Shape := ⟨3, ![32, 256, 512]⟩
abbrev S32 : Shape := ⟨1, ![32]⟩
abbrev S1x32 : Shape := ⟨2, ![1, 32]⟩
abbrev S512x32 : Shape := ⟨2, ![512, 32]⟩
abbrev S_ : Shape := ⟨0, ![]⟩
abbrev S512x32x512 : Shape := ⟨3, ![512, 32, 512]⟩
abbrev S512x32x1 : Shape := ⟨3, ![512, 32, 1]⟩
abbrev S512x512 : Shape := ⟨2, ![512, 512]⟩

abbrev nBuf : Space → Nat
  | .hbm => 26
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S256x32, .f32⟩
  | .hbm, ⟨2, _⟩ => ⟨S512x1, .i32⟩
  | .hbm, ⟨3, _⟩ => ⟨S32x256x512, .f32⟩
  | .hbm, ⟨4, _⟩ => ⟨S32, .i32⟩
  | .hbm, ⟨5, _⟩ => ⟨S1x32, .i32⟩
  | .hbm, ⟨6, _⟩ => ⟨S512x32, .i32⟩
  | .hbm, ⟨7, _⟩ => ⟨S512x32, .i32⟩
  | .hbm, ⟨8, _⟩ => ⟨S512x32, .i1⟩
  | .hbm, ⟨9, _⟩ => ⟨S512x32, .i32⟩
  | .hbm, ⟨10, _⟩ => ⟨S_, .i32⟩
  | .hbm, ⟨11, _⟩ => ⟨S_, .i32⟩
  | .hbm, ⟨12, _⟩ => ⟨S512x32, .i32⟩
  | .hbm, ⟨13, _⟩ => ⟨S_, .i32⟩
  | .hbm, ⟨14, _⟩ => ⟨S512x32, .i32⟩
  | .hbm, ⟨15, _⟩ => ⟨S512x32, .i1⟩
  | .hbm, ⟨16, _⟩ => ⟨S512x32, .i1⟩
  | .hbm, ⟨17, _⟩ => ⟨S512x32x512, .f32⟩
  | .hbm, ⟨18, _⟩ => ⟨S512x32x1, .i1⟩
  | .hbm, ⟨19, _⟩ => ⟨S_, .f32⟩
  | .hbm, ⟨20, _⟩ => ⟨S_, .f32⟩
  | .hbm, ⟨21, _⟩ => ⟨S512x32x512, .i1⟩
  | .hbm, ⟨22, _⟩ => ⟨S512x32x512, .f32⟩
  | .hbm, ⟨23, _⟩ => ⟨S512x32x512, .f32⟩
  | .hbm, ⟨24, _⟩ => ⟨S_, .f32⟩
  | .hbm, ⟨25, _⟩ => ⟨S512x512, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_call0_c : Ref sig .tc := ⟨.hbm, 10, rfl⟩
abbrev main_call0_call0_v0 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩

abbrev nD : Nat := 1
abbrev τ : Topo := Topo.v7x

variable {F : FTy → Type} [FloatOps F]
-- ==== Proof.Program.lean ====
/-
# The kernel's body, its repeated operations gathered into folds

The body of one device is: fifteen signals, one wait, the packing of the device's own rows, fifteen remote copies,
fifteen pairs of waits, and one store. Here each of the three repetitions is a recursive definition over a list, the
values between them are named as functions of the device and of what its buffers hold, and the printed body is shown
to be that program by unfolding.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Transfers

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The ring of sixteen devices -/

/-- The device `o` places after `c`, and the one `o` places before it. -/
def tgt (c : Dev nD) (o : Fin 16) : Dev nD := ⟨(c.val + o.val) % 16, Nat.mod_lt _ (by decide)⟩
def src (c : Dev nD) (o : Fin 16) : Dev nD := ⟨(c.val + (16 - o.val)) % 16, Nat.mod_lt _ (by decide)⟩
/-- The offset that leads back. -/
def neg (o : Fin 16) : Fin 16 := ⟨(16 - o.val) % 16, Nat.mod_lt _ (by decide)⟩

theorem tgt_src (c : Dev nD) (o : Fin 16) : tgt (src c o) o = c := by
  apply Fin.ext; have : c.val < 16 := c.isLt; have := o.isLt; simp only [tgt, src]; omega
theorem src_tgt (c : Dev nD) (o : Fin 16) : src (tgt c o) o = c := by
  apply Fin.ext; have : c.val < 16 := c.isLt; have := o.isLt; simp only [tgt, src]; omega
theorem tgt_neg (c : Dev nD) (o : Fin 16) : tgt (tgt c o) (neg o) = c := by
  apply Fin.ext; have : c.val < 16 := c.isLt; have := o.isLt; simp only [tgt, neg]; omega
theorem neg_neg (o : Fin 16) : neg (neg o) = o := by
  apply Fin.ext; have := o.isLt; simp only [neg]; omega
theorem neg_ne_zero {o : Fin 16} (h : o ≠ 0) : neg o ≠ 0 := by
  have := o.isLt
  have h' : o.val ≠ 0 := fun e => h (Fin.ext e)
  intro e
  have e' := congrArg Fin.val e
  simp only [neg] at e'
  change (16 - o.val) % 16 = 0 at e'
  omega

/-- The offsets the kernel runs through, in its order. -/
def offs : List (Fin 16) := [1, 2, 3, 4, 5, 6, 7, 8, 9, 10, 11, 12, 13, 14, 15]

/-! ## The memrefs and semaphores -/

abbrev xM : Memref sig .tc .vmem S512x256 .f32 := Memref.whole cc0_stg0_0
abbrev routeM : Memref sig .tc .vmem S512x1 .i32 := Memref.whole cc0_stg1_0
abbrev wM : Memref sig .tc .vmem S2x256x512 .f32 := Memref.whole cc0_stg2_0
abbrev outM : Memref sig .tc .vmem S32x512 .f32 := Memref.whole cc0_stg3_0
/-- The device's own packed rows; and everyone's, window by window. -/
abbrev ownM : Memref sig .tc .vmem S24x512 .bf16 := Memref.whole cc0_scratch0
abbrev allM : Memref sig .tc .vmem S384x512 .bf16 := Memref.whole cc0_scratch1

theorem win_inb (o : Fin 16) : ∀ a, (![24 * o.val, 0] : Fin 2 → Nat) a + S24x512.size a ≤ S384x512.size a := by revert o; decide
theorem win_words (o : Fin 16) : (Rect.unit (s := S384x512) ![24 * o.val, 0] S24x512.size (win_inb o)).WholeWords (EltTy.packing .bf16) := by
  revert o; decide

abbrev winR (o : Fin 16) : Rect S384x512 := Rect.unit (s := S384x512) ![24 * o.val, 0] S24x512.size (win_inb o)
/-- Window `o` of the landing buffer: its rows `24 o … 24 o + 23`. -/
abbrev winM (o : Fin 16) : Memref sig .tc .vmem S24x512 .bf16 := (allM : Memref sig .tc .vmem S384x512 .bf16).slice (winR o) (fun _ => rfl)

theorem sem_inb (o : Fin 16) : ∀ a, (![o.val] : Fin 1 → Nat) a + S1.size a ≤ S16.size a := by revert o; decide

/-- The launch's barrier semaphore, and the send and receive semaphores of offset `o`. -/
abbrev barS : Sem sig := (SemArray.scalar (sig.barrier 0 rfl) : Sems sig S_).sem
abbrev sendS (o : Fin 16) : DmaSem sig := (((cc0_scratch2 : DmaSems sig S16).slice (Rect.unit (s := S16) ![o.val] S1.size (sem_inb o))).squeeze S_ squeezes_S1_S_).sem
abbrev recvS (o : Fin 16) : DmaSem sig := (((cc0_scratch3 : DmaSems sig S16).slice (Rect.unit (s := S16) ![o.val] S1.size (sem_inb o))).squeeze S_ squeezes_S1_S_).sem

theorem sendS_val (o : Fin 16) : (sendS o).val = 4 + o.val := by revert o; decide
theorem recvS_val (o : Fin 16) : (recvS o).val = 20 + o.val := by revert o; decide

/-! ## The three repetitions -/

abbrev P (F : FTy → Type) [FloatOps F] : Type 1 := Prog (TpuEff nD τ sig (Elt F) Λ₀ .tc) PUnit

/-- One unit to the barrier semaphore of each device of the list. -/
def sigs : List (Dev nD) → P F → P F
  | [], k => k
  | n :: l, k => .op (.semSignal (n, .tc) barS ((1 : ℕ) : ℤ)) fun _ => sigs l k

/-- The own rows copied into window `o` of the device named with it, for each entry of the list. -/
def sends : List (Dev nD × Fin 16) → P F → P F
  | [], k => k
  | p :: l, k => .op (.enqueueDma ownM (.remote (Dev.tc p.1) (winM p.2) (.dma (sendS p.2))) (.dma (recvS p.2))
      (Memref.isWhole_whole _).wordExact ((Memref.isWhole_whole _).wordExact_slice rfl _ (win_words p.2)) ⟨⟨rfl, Or.inl rfl⟩, trivial⟩) fun _ => sends l k

/-- For each offset, the wait for the copy out and the wait for the copy in. -/
def waits : List (Fin 16) → P F → P F
  | [], k => k
  | o :: l, k => .op (.waitDma2 (sendS o) (winM o) ownM ((Memref.isWhole_whole _).wordExact_slice rfl _ (win_words o)) (Memref.isWhole_whole _).wordExact) fun _ =>
      .op (.waitDma2 (recvS o) ownM (winM o) (Memref.isWhole_whole _).wordExact ((Memref.isWhole_whole _).wordExact_slice rfl _ (win_words o))) fun _ => waits l k

/-! ## The values between the operations -/

/-- The device's number as the kernel computes it, and its first expert. -/
def devW (c : Dev nD) : BitVec 32 := Scalar.remsi (Scalar.divsi (Dev.word c) 1#32) 16#32
def expW (c : Dev nD) : BitVec 32 := Scalar.muli 2#32 (devW c)

def rowIdx : IVec S24x512 32 := iota .tc S24x512 32 [0] iota_S24x512_d0_w32

/-- The packed rows of the first expert, from the routes `r`, the tokens `x` and the expert's weights `w`; -/
def packLo (c : Dev nD) (r : Vec F S512x1 .i32) (x : Vec F S512x256 .f32) (w : Vec F S1x256x512 .f32) : FVec F S12x512 .bf16 :=
  k0_pay8 (k0_pay4 r) (k0_pay5 rowIdx) (k0_pay6 (expW c) (k0_pay3 r) rowIdx) x w
/-- and of the second. -/
def packHi (c : Dev nD) (r : Vec F S512x1 .i32) (x : Vec F S512x256 .f32) (w : Vec F S1x256x512 .f32) : FVec F S12x512 .bf16 :=
  k0_pay9 (k0_pay4 r) (k0_pay5 rowIdx) (k0_pay6 (expW c) (k0_pay3 r) rowIdx) x w

/-- The matrix that selects the rows of the result, from all the routes `r` and the routes `rd` of the device's own tokens. -/
def pick (c : Dev nD) (r : Vec F S512x1 .i32) (rd : Vec F S32x1 .i32) : FVec F S32x384 .f32 :=
  k0_pay18 (k0_pay16 (devW c) (k0_pay11 rd) (k0_pay12 (devW c) (k0_pay3 r) rd) 2#32 (k0_pay14 rd) (k0_pay15 rd)
      (Scalar.extui (Scalar.cmpi .sgt 2#32 0#32)) 0#32)
    (k0_pay17 (k0_pay13 (devW c) (k0_pay3 r) rd))

/-! ## The rectangles -/

abbrev rRoute : Rect S512x1 := Rect.unit (s := S512x1) ![0, 0] S512x1.size inb_S512x1_S512x1_0_0
abbrev rX : Rect S512x256 := Rect.unit (s := S512x256) ![0, 0] S512x256.size inb_S512x256_S512x256_0_0
abbrev rW0 : Rect S2x256x512 := Rect.unit (s := S2x256x512) ![0, 0, 0] S1x256x512.size inb_S2x256x512_S1x256x512_0_0_0
abbrev rW1 : Rect S2x256x512 := Rect.unit (s := S2x256x512) ![1, 0, 0] S1x256x512.size inb_S2x256x512_S1x256x512_1_0_0
abbrev rLo : Rect S24x512 := Rect.unit (s := S24x512) ![0, 0] S12x512.size inb_S24x512_S12x512_0_0
abbrev rHi : Rect S24x512 := Rect.unit (s := S24x512) ![12, 0] S12x512.size inb_S24x512_S12x512_12_0
abbrev rOwn : Rect S24x512 := Rect.unit (s := S24x512) ![0, 0] S24x512.size inb_S24x512_S24x512_0_0
abbrev rMine (c : Dev nD) : Rect S512x1 := Rect.unit (s := S512x1) (k0_off1 c) S32x1.size (k0_off1_inb c)
abbrev rAll : Rect S384x512 := Rect.unit (s := S384x512) ![0, 0] S384x512.size inb_S384x512_S384x512_0_0
abbrev rOut : Rect S32x512 := Rect.unit (s := S32x512) ![0, 0] S32x512.size inb_S32x512_S32x512_0_0

/-! ## The program -/

/-- After the last wait: everyone's rows are read and the result is stored. -/
def finish (g : FVec F S32x384 .f32) : P F :=
  .op (.load allM rAll.toLoadRect (View.loadsAt_vmem h_S384x512)) fun a =>
  .op (.load outM rOut.toLoadRect (View.loadsAt_vmem h_S32x512)) fun _ =>
  .op (.store outM rOut (k0_pay1 g a) Finset.univ (View.stores_vmem_bits_univ h_S32x512 rfl) (.inl rfl)) fun _ => .ret ⟨⟩

/-- The copies and all after them, the routes read being `r`. -/
def exchange (c : Dev nD) (r : Vec F S512x1 .i32) (l : List (Dev nD × Fin 16)) : P F :=
  sends l (.op (.load routeM (rMine c).toLoadRect (View.loadsAt_vmem h_S32x1)) fun rd => waits offs (finish (pick c r rd)))

/-- The packing of the own rows and all after it. -/
def pack (c : Dev nD) (l : List (Dev nD × Fin 16)) : P F :=
  .op (.load routeM rRoute.toLoadRect (View.loadsAt_vmem h_S512x1)) fun r =>
  .op (.load xM rX.toLoadRect (View.loadsAt_vmem h_S512x256)) fun x =>
  .op (.load wM rW0.toLoadRect (View.loadsAt_vmem h_S1x256x512)) fun w0 =>
  .op (.load ownM rLo.toLoadRect (View.loadsAt_vmem h_S12x512)) fun _ =>
  .op (.store ownM rLo (packLo c r x w0) Finset.univ
    (View.stores_vmem h_S12x512 ((Memref.isWhole_whole _).storeExact_slice rfl _ packedbf16_S24x512_S12x512_0_0) (fun _ => rfl)) (.inl rfl)) fun _ =>
  .op (.load wM rW1.toLoadRect (View.loadsAt_vmem h_S1x256x512)) fun w1 =>
  .op (.load ownM rHi.toLoadRect (View.loadsAt_vmem h_S12x512)) fun _ =>
  .op (.store ownM rHi (packHi c r x w1) Finset.univ
    (View.stores_vmem h_S12x512 ((Memref.isWhole_whole _).storeExact_slice rfl _ packedbf16_S24x512_S12x512_12_0) (fun _ => rfl)) (.inl rfl)) fun _ =>
  .op (.load ownM rOwn.toLoadRect (View.loadsAt_vmem h_S24x512)) fun b =>
  .op (.load allM (winR 0).toLoadRect (View.loadsAt_vmem h_S24x512)) fun _ =>
  .op (.store allM (winR 0) (k0_pay10 b) Finset.univ
    (View.stores_vmem h_S24x512 ((Memref.isWhole_whole _).storeExact_slice rfl _ packedbf16_S384x512_S24x512_0_0) (fun _ => rfl)) (.inl rfl)) fun _ =>
  exchange c r l

/-- The device lists as the printed body spells them. -/
def sigDevs (c : Dev nD) : List (Dev nD) :=
  [⟨k0_dev1 c, k0_dev1_lt c⟩, ⟨k0_dev2 c, k0_dev2_lt c⟩, ⟨k0_dev3 c, k0_dev3_lt c⟩, ⟨k0_dev4 c, k0_dev4_lt c⟩, ⟨k0_dev5 c, k0_dev5_lt c⟩,
    ⟨k0_dev6 c, k0_dev6_lt c⟩, ⟨k0_dev7 c, k0_dev7_lt c⟩, ⟨k0_dev8 c, k0_dev8_lt c⟩, ⟨k0_dev9 c, k0_dev9_lt c⟩, ⟨k0_dev10 c, k0_dev10_lt c⟩,
    ⟨k0_dev11 c, k0_dev11_lt c⟩, ⟨k0_dev12 c, k0_dev12_lt c⟩, ⟨k0_dev13 c, k0_dev13_lt c⟩, ⟨k0_dev14 c, k0_dev14_lt c⟩, ⟨k0_dev15 c, k0_dev15_lt c⟩]
def sendDevs (c : Dev nD) : List (Dev nD × Fin 16) :=
  [(⟨k0_dev16 c, k0_dev16_lt c⟩, 1), (⟨k0_dev17 c, k0_dev17_lt c⟩, 2), (⟨k0_dev18 c, k0_dev18_lt c⟩, 3), (⟨k0_dev19 c, k0_dev19_lt c⟩, 4),
    (⟨k0_dev20 c, k0_dev20_lt c⟩, 5), (⟨k0_dev21 c, k0_dev21_lt c⟩, 6), (⟨k0_dev22 c, k0_dev22_lt c⟩, 7), (⟨k0_dev23 c, k0_dev23_lt c⟩, 8),
    (⟨k0_dev24 c, k0_dev24_lt c⟩, 9), (⟨k0_dev25 c, k0_dev25_lt c⟩, 10), (⟨k0_dev26 c, k0_dev26_lt c⟩, 11), (⟨k0_dev27 c, k0_dev27_lt c⟩, 12),
    (⟨k0_dev28 c, k0_dev28_lt c⟩, 13), (⟨k0_dev29 c, k0_dev29_lt c⟩, 14), (⟨k0_dev30 c, k0_dev30_lt c⟩, 15)]

/-- The devices named are the ones `1 … 15` places on. -/
theorem sigDevs_eq (c : Dev nD) : sigDevs c = offs.map (tgt c) := by
  simp only [sigDevs, offs, List.map, tgt, k0_dev1_eq, k0_dev2_eq, k0_dev3_eq, k0_dev4_eq, k0_dev5_eq, k0_dev6_eq, k0_dev7_eq, k0_dev8_eq,
    k0_dev9_eq, k0_dev10_eq, k0_dev11_eq, k0_dev12_eq, k0_dev13_eq, k0_dev14_eq, k0_dev15_eq]
  rfl
theorem sendDevs_eq (c : Dev nD) : sendDevs c = offs.map fun o => (tgt c o, o) := by
  simp only [sendDevs, offs, List.map, tgt, k0_dev16_eq, k0_dev17_eq, k0_dev18_eq, k0_dev19_eq, k0_dev20_eq, k0_dev21_eq, k0_dev22_eq,
    k0_dev23_eq, k0_dev24_eq, k0_dev25_eq, k0_dev26_eq, k0_dev27_eq, k0_dev28_eq, k0_dev29_eq, k0_dev30_eq]
  rfl

/-- The body of device `c`. -/
def folded (c : Dev nD) : P F :=
  sigs (sigDevs c) (.op (.semWait barS ((15 : ℕ) : ℤ)) fun _ => pack c (sendDevs c))

set_option maxRecDepth 65536 in
theorem body_eq :
    cc0_body_skel (F := F) xM (Memref.isWhole_whole _) routeM (Memref.isWhole_whole _) wM (Memref.isWhole_whole _) outM (Memref.isWhole_whole _)
      ownM (Memref.isWhole_whole _) allM (Memref.isWhole_whole _) cc0_scratch2 cc0_scratch3 = .op .deviceId fun c => folded c := by
  simp only [cc0_body_skel, k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton, k0_part11_eq_skeleton,
    k0_part12_eq_skeleton, k0_part13_eq_skeleton, k0_part14_eq_skeleton, k0_part15_eq_skeleton, k0_part16_eq_skeleton,
    k0_part1_skel, k0_part2_skel, k0_part3_skel, k0_part4_skel, k0_part5_skel, k0_part6_skel, k0_part7_skel, k0_part8_skel, k0_part9_skel,
    k0_part10_skel, k0_part11_skel, k0_part12_skel, k0_part13_skel, k0_part14_skel, k0_part15_skel, k0_part16_skel,
    semSignalWord, semWaitWord, Prog.lift, Prog.bind_op, Prog.bind_ret, Prog.pure_eq_ret]
  rfl

end Cert.MoeProof

end
-- ==== Proof.Protocol.lean ====
/-
# The protocol of the exchange

Sixteen devices. Device `c` sends its packed rows to each other device `tgt c o`, into that device's window `o`.

* The barrier semaphore of `c`: fifteen units, one from each peer. The unit named `j` comes from `tgt c j` and hands
  `c` that peer's window `j`, which is where `c` will copy to.
* The send semaphore of offset `o`: the credit of one window, when the copy at `o` has been read out of `c`'s packed
  rows. It hands back the share of them that was lent to the copy.
* The receive semaphore of offset `o`: the credit of one window, when the copy from `src c o` has landed. It hands `c`
  its own window `o`, holding the packed rows of `src c o`.
-/
module

public import proofs.«01_k».proof.Proof.Program
public import Idealize.ShloMosaic.Lib.ViewIndex

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources: the staging library's and the exchange's, duties named by offsets -/

abbrev UB : Type := URounds (GSem nD τ sig) (Fin 16)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The start: any contents, all counters zero. -/
def s₀ : MemSt nD τ sig (Elt F) := ⟨m, fun _ => 0, ρ⟩

/-! ## The cells -/

abbrev barCell (c : Dev nD) : GSem nD τ sig := ((c : Thread nD τ), .reg barS)
abbrev sendCell (c : Dev nD) (o : Fin 16) : GSem nD τ sig := ((c : Thread nD τ), .dma (sendS o))
abbrev recvCell (c : Dev nD) (o : Fin 16) : GSem nD τ sig := ((c : Thread nD τ), .dma (recvS o))

/-- A device's cells: the barrier, then the send cells, then the receive cells; and the latter two, its own. -/
abbrev osem : Fin 16 ⊕ Fin 16 → SemLoc sig := Sum.elim (fun o => .dma (sendS o)) (fun o => .dma (recvS o))
abbrev Ck : Type := Unit ⊕ (Fin 16 ⊕ Fin 16)
abbrev csem : Ck → SemLoc sig := Sum.elim (fun _ => .reg barS) osem
abbrev kcell (ck : Dev nD × Ck) : GSem nD τ sig := ((ck.1 : Thread nD τ), csem ck.2)

theorem sendS_ne_recvS (o o' : Fin 16) : sendS o ≠ recvS o' := fun h => by
  have := congrArg Fin.val h
  rw [sendS_val, recvS_val] at this
  have := o.isLt
  omega
theorem sendS_inj {o o' : Fin 16} (h : sendS o = sendS o') : o = o' := by
  have := congrArg Fin.val h
  rw [sendS_val, sendS_val] at this
  exact Fin.ext (by omega)
theorem recvS_inj {o o' : Fin 16} (h : recvS o = recvS o') : o = o' := by
  have := congrArg Fin.val h
  rw [recvS_val, recvS_val] at this
  exact Fin.ext (by omega)

/-- The credit of one window. -/
abbrev N : ℕ := (ownM : Memref sig .tc .vmem S24x512 .bf16).view.dmaCredit
theorem N_pos : 0 < N := View.dmaCredit_pos _ (by decide)
theorem win_credit (o : Fin 16) : (winM o : Memref sig .tc .vmem S24x512 .bf16).view.dmaCredit = N := rfl

/-! ## Contents -/

/-- An index of a matrix, from its row and column. -/
def ix2 {a b : ℕ} (i : Fin a) (j : Fin b) : (⟨2, ![a, b]⟩ : Shape).Idx := fun
  | ⟨0, _⟩ => i
  | ⟨1, _⟩ => j

theorem idx2_ext {d : Fin 2 → Nat} {x y : (⟨2, d⟩ : Shape).Idx} (h0 : (x 0).val = (y 0).val) (h1 : (x 1).val = (y 1).val) : x = y :=
  funext fun
    | ⟨0, _⟩ => Fin.ext h0
    | ⟨1, _⟩ => Fin.ext h1

/-- What device `c`'s staging buffers hold: its tokens, its routes, its experts' weights. -/
def xS (c : Dev nD) : (cc0_stg0_0 : Ref sig .tc).ty.Contents (Elt F) := (win0_0.blk (0 : Fin 1)).view.read (Elt F) (m ((c : Thread nD τ).loc main_arg0))
def rS (c : Dev nD) : (cc0_stg1_0 : Ref sig .tc).ty.Contents (Elt F) := (win0_1.blk (0 : Fin 1)).view.read (Elt F) (m ((c : Thread nD τ).loc main_arg2))
def wS (c : Dev nD) : (cc0_stg2_0 : Ref sig .tc).ty.Contents (Elt F) := (win0_2.blk (0 : Fin 1)).view.read (Elt F) (m ((c : Thread nD τ).loc main_arg3))

abbrev wLo (c : Dev nD) : Vec F S1x256x512 .f32 := (wM : Memref sig .tc .vmem S2x256x512 .f32).view.readAt (Elt F) rW0.toLoadRect (wS m c)
abbrev wHi (c : Dev nD) : Vec F S1x256x512 .f32 := (wM : Memref sig .tc .vmem S2x256x512 .f32).view.readAt (Elt F) rW1.toLoadRect (wS m c)

theorem hi_lt (i : S24x512.Idx) : (i 0).val - 12 < 12 := by
  have : (i 0).val < 24 := (i 0).isLt
  omega

/-- Twelve rows above twelve. -/
def halves (a b : FVec F S12x512 .bf16) : Vec F S24x512 .bf16 := fun i =>
  if h : (i 0).val < 12 then a (ix2 ⟨(i 0).val, h⟩ (i 1)) else b (ix2 ⟨(i 0).val - 12, hi_lt i⟩ (i 1))

/-- Device `c`'s packed rows: twelve of its first expert, twelve of its second. -/
def ownB (c : Dev nD) : Vec F S24x512 .bf16 :=
  halves (packLo c (rS m c) (xS m c) (wLo m c)) (packHi c (rS m c) (xS m c) (wHi m c))

theorem win_lt (i : S384x512.Idx) : (i 0).val / 24 < 16 := by
  have : (i 0).val < 384 := (i 0).isLt
  omega

/-- Everyone's packed rows as device `c` ends up holding them: window `o` from `src c o`. -/
def allB (c : Dev nD) : Vec F S384x512 .bf16 := fun i =>
  ownB m (src c ⟨(i 0).val / 24, win_lt i⟩) (ix2 ⟨(i 0).val % 24, Nat.mod_lt _ (by decide)⟩ (i 1))

/-- The routes of the device's own 32 tokens, and its result. -/
abbrev rMineB (c : Dev nD) : Vec F S32x1 .i32 := (routeM : Memref sig .tc .vmem S512x1 .i32).view.readAt (Elt F) (rMine c).toLoadRect (rS m c)
def outB (c : Dev nD) : (cc0_stg3_0 : Ref sig .tc).ty.Contents (Elt F) := k0_pay1 (pick c (rS m c) (rMineB m c)) (allB m c)

/-- The element sets of the windows. -/
abbrev winSet (o : Fin 16) : Finset S384x512.Idx := (winM o : Memref sig .tc .vmem S24x512 .bf16).view.set

omit [FloatOps F] in
theorem mem_winSet (o : Fin 16) (i : S384x512.Idx) : i ∈ winSet o ↔ (i 0).val / 24 = o.val := by
  have e : winSet o = (winR o).set := View.set_slice_whole _ _
  rw [e]
  refine Rect.mem_set_unit.trans ?_
  have h1 : (i 1).val < 512 := (i 1).isLt
  constructor
  · intro h
    have h0 : 24 * o.val ≤ (i 0).val ∧ (i 0).val < 24 * o.val + 24 := h 0
    omega
  · intro h a
    match a with
    | ⟨0, _⟩ =>
      show 24 * o.val ≤ (i 0).val ∧ (i 0).val < 24 * o.val + 24
      omega
    | ⟨1, _⟩ =>
      show 0 ≤ (i 1).val ∧ (i 1).val < 0 + 512
      omega

theorem winSet_disjoint (o o' : Fin 16) (h : o ≠ o') : Disjoint (winSet o) (winSet o') :=
  Finset.disjoint_left.mpr fun i hi hi' => h (Fin.ext (((mem_winSet o i).mp hi).symm.trans ((mem_winSet o' i).mp hi')))
theorem winSet_cover : Finset.univ.biUnion winSet = Finset.univ := by
  ext i
  simp only [Finset.mem_biUnion, Finset.mem_univ, true_and, iff_true]
  exact ⟨⟨(i 0).val / 24, win_lt i⟩, (mem_winSet _ i).mpr rfl⟩

/-- Packed rows written through window `o` are what `allB` has there. -/
theorem landed_eq (p c : Dev nD) (o : Fin 16) (hc : c = src p o) (fd : (cc0_scratch1 : Ref sig .tc).ty.Contents (Elt F)) (i : S384x512.Idx) (hi : i ∈ winSet o) :
    (winM o : Memref sig .tc .vmem S24x512 .bf16).view.write (Elt F) fd ((ownM : Memref sig .tc .vmem S24x512 .bf16).view.read (Elt F) (ownB m c)) Finset.univ i = allB m p i := by
  subst hc
  obtain ⟨x, rfl⟩ := View.exists_of_mem_set_slice hi
  have e := View.write_emb_of_mem (v := (winM o : Memref sig .tc .vmem S24x512 .bf16).view) (Val := Elt F) fd
    ((ownM : Memref sig .tc .vmem S24x512 .bf16).view.read (Elt F) (ownB m (src p o))) (Finset.mem_univ x)
  refine e.trans ?_
  have hx : (x 0).val < 24 := (x 0).isLt
  have h0 : (((winR o).emb x) 0).val = 24 * o.val + (x 0).val := by rw [Rect.emb_apply]; show 24 * o.val + 1 * (x 0).val = _; omega
  have h1 : (((winR o).emb x) 1).val = (x 1).val := by rw [Rect.emb_apply]; show 0 + 1 * (x 1).val = _; omega
  show ownB m (src p o) x = ownB m (src p ⟨(((winR o).emb x) 0).val / 24, _⟩) (ix2 ⟨(((winR o).emb x) 0).val % 24, _⟩ (((winR o).emb x) 1))
  have hd : (⟨(((winR o).emb x) 0).val / 24, win_lt _⟩ : Fin 16) = o := Fin.ext (by show (((winR o).emb x) 0).val / 24 = o.val; rw [h0]; omega)
  rw [hd]
  exact congrArg _ (idx2_ext (by show (x 0).val = (((winR o).emb x) 0).val % 24; rw [h0]; omega) h1.symm)

/-! ## The points-tos handed over -/

/-- Device `c`'s window `o` at contents `f` (a function on the whole landing buffer). -/
def winPts (c : Dev nD) (o : Fin 16) (f : (cc0_scratch1 : Ref sig .tc).ty.Contents (Elt F)) : sProp 𝕄 :=
  (winM o : Memref sig .tc .vmem S24x512 .bf16).view.loc (c : Thread nD τ) ↦[(winM o : Memref sig .tc .vmem S24x512 .bf16).view.set]{fullShare} f
/-- The share of device `c`'s packed rows that the copy at offset `o` reads. -/
def lentPts (c : Dev nD) (o : Fin 16) : sProp 𝕄 :=
  (ownM : Memref sig .tc .vmem S24x512 .bf16).view.loc (c : Thread nD τ) ↦[(ownM : Memref sig .tc .vmem S24x512 .bf16).view.set]{Transfers.shareTok fullShare 16 o} ownB m c

omit [FloatOps F] in
instance winPts_storable (c : Dev nD) (o : Fin 16) (f) : BI.Storable (upEmb : UEmb _ 𝕄) (winPts (F := F) c o f) := by unfold winPts; infer_instance
instance lentPts_storable (c : Dev nD) (o : Fin 16) : BI.Storable (upEmb : UEmb _ 𝕄) (lentPts (F := F) m c o) := by unfold lentPts; infer_instance

/-! ## The schedule -/

/-- The offset a semaphore number stands for, counted from `k`. -/
def offOf (k : ℕ) (q : DmaSem sig) : Fin 16 := ⟨(q.val - k) % 16, Nat.mod_lt _ (by decide)⟩

theorem offOf_send (o : Fin 16) : offOf 4 (sendS o) = o := Fin.ext (by
  have := o.isLt
  show ((sendS o).val - 4) % 16 = o.val
  rw [sendS_val]; omega)
theorem offOf_recv (o : Fin 16) : offOf 20 (recvS o) = o := Fin.ext (by
  have := o.isLt
  show ((recvS o).val - 20) % 16 = o.val
  rw [recvS_val]; omega)

/-- The offsets other than nought. -/
abbrev others : Finset (Fin 16) := Finset.univ.erase 0

/-- The duties of a semaphore in the one round there is: every other offset at the barrier; one at a send or receive semaphore in use. -/
def dutiesAt : SemLoc sig → Finset (Fin 16)
  | .reg _ => others
  | .dma q => if 4 < q.val ∧ q.val ≠ 20 then {0} else ∅
def amountAt : SemLoc sig → ℕ
  | .reg _ => 1
  | .dma _ => N
def payAt (c : Dev nD) : SemLoc sig → Fin 16 → sProp 𝕄
  | .reg _, j => iprop(∃ f, winPts (tgt c j) j f)
  | .dma q, _ => if q.val < 20 then lentPts m c (offOf 4 q) else winPts c (offOf 20 q) (allB m c)

def sched : Rounds.Schedule (GSem nD τ sig) (Fin 16) 𝕄 where
  duties g r := if r = 0 ∧ g.1.2 = .tc then dutiesAt g.2 else ∅
  unitless _ := False
  amount g _ _ := amountAt g.2
  payload g _ d := payAt m g.1.1 g.2 d
  amount_pos g _ _ _ := by
    rcases g with ⟨t, _ | _⟩
    · exact Nat.one_pos
    · exact N_pos

instance sched_payload_storable (g : GSem nD τ sig) (r : ℕ) (d : Fin 16) :
    BI.Storable (upEmb : UEmb _ 𝕄) ((sched (F := F) m).payload g r d) := by
  rcases g with ⟨t, _ | q⟩
  · show BI.Storable upEmb (iprop(∃ f, winPts (tgt t.1 d) d f) : sProp 𝕄)
    infer_instance
  · show BI.Storable upEmb (if q.val < 20 then lentPts m t.1 (offOf 4 q) else winPts t.1 (offOf 20 q) (allB m t.1) : sProp 𝕄)
    split <;> infer_instance

section Sched
variable (c : Dev nD) (o : Fin 16)

theorem duties_bar : (sched (F := F) m).duties (barCell c) 0 = others := by
  show (if (0 = 0 ∧ (c : Thread nD τ).2 = .tc) then others else ∅ : Finset (Fin 16)) = others
  rw [if_pos ⟨rfl, rfl⟩]
theorem duties_send (h : o ≠ 0) : (sched (F := F) m).duties (sendCell c o) 0 = {0} := by
  have h' : o.val ≠ 0 := fun e => h (Fin.ext e)
  have := o.isLt
  show (if (0 = 0 ∧ (c : Thread nD τ).2 = .tc) then (if 4 < (sendS o).val ∧ (sendS o).val ≠ 20 then {0} else ∅) else ∅ : Finset (Fin 16)) = {0}
  rw [if_pos ⟨rfl, rfl⟩, sendS_val, if_pos (by omega)]
theorem duties_recv (h : o ≠ 0) : (sched (F := F) m).duties (recvCell c o) 0 = {0} := by
  have h' : o.val ≠ 0 := fun e => h (Fin.ext e)
  show (if (0 = 0 ∧ (c : Thread nD τ).2 = .tc) then (if 4 < (recvS o).val ∧ (recvS o).val ≠ 20 then {0} else ∅) else ∅ : Finset (Fin 16)) = {0}
  rw [if_pos ⟨rfl, rfl⟩, recvS_val, if_pos (by omega)]
theorem duties_send_zero : ∀ r, 0 ≤ r → (sched (F := F) m).duties (sendCell c 0) r = ∅ := fun r _ => by
  show (if (r = 0 ∧ (c : Thread nD τ).2 = .tc) then (if 4 < (sendS 0).val ∧ (sendS 0).val ≠ 20 then {0} else ∅) else ∅ : Finset (Fin 16)) = ∅
  rw [sendS_val, if_neg (c := 4 < 4 + (0 : Fin 16).val ∧ _) (by simp), ite_self]
theorem duties_recv_zero : ∀ r, 0 ≤ r → (sched (F := F) m).duties (recvCell c 0) r = ∅ := fun r _ => by
  show (if (r = 0 ∧ (c : Thread nD τ).2 = .tc) then (if 4 < (recvS 0).val ∧ (recvS 0).val ≠ 20 then {0} else ∅) else ∅ : Finset (Fin 16)) = ∅
  rw [recvS_val, if_neg (c := 4 < 20 + (0 : Fin 16).val ∧ _) (by simp), ite_self]
theorem duties_later (g : GSem nD τ sig) : ∀ r, 1 ≤ r → (sched (F := F) m).duties g r = ∅ :=
  fun r hr => if_neg fun h => by omega

theorem expect_bar : (sched (F := F) m).expect (barCell c) 0 = 15 := by
  unfold Schedule.expect Schedule.amountOf
  rw [duties_bar]
  show ∑ _d ∈ others, 1 = 15
  decide
theorem expect_send (h : o ≠ 0) : (sched (F := F) m).expect (sendCell c o) 0 = N := by
  unfold Schedule.expect Schedule.amountOf; rw [duties_send m c o h, Finset.sum_singleton]; rfl
theorem expect_recv (h : o ≠ 0) : (sched (F := F) m).expect (recvCell c o) 0 = N := by
  unfold Schedule.expect Schedule.amountOf; rw [duties_recv m c o h, Finset.sum_singleton]; rfl

theorem payload_send (d : Fin 16) : (sched (F := F) m).payload (sendCell c o) 0 d = lentPts m c o := by
  have := o.isLt
  show (if (sendS o).val < 20 then lentPts m c (offOf 4 (sendS o)) else winPts c (offOf 20 (sendS o)) (allB m c)) = _
  rw [if_pos (by rw [sendS_val]; omega), offOf_send]
theorem payload_recv (d : Fin 16) : (sched (F := F) m).payload (recvCell c o) 0 d = winPts c o (allB m c) := by
  show (if (recvS o).val < 20 then lentPts m c (offOf 4 (recvS o)) else winPts c (offOf 20 (recvS o)) (allB m c)) = _
  rw [if_neg (by rw [recvS_val]; omega), offOf_recv]

theorem rest_bar : bigSep ((sched (F := F) m).duties (barCell c) 0 \ ∅) (fun d => (sched (F := F) m).payload (barCell c) 0 d)
    = bigSep others fun j => iprop(∃ f, winPts (tgt c j) j f) := by
  rw [Finset.sdiff_empty, duties_bar]; rfl
theorem rest_send (h : o ≠ 0) : bigSep ((sched (F := F) m).duties (sendCell c o) 0 \ ∅) (fun d => (sched (F := F) m).payload (sendCell c o) 0 d) = lentPts m c o := by
  rw [Finset.sdiff_empty, duties_send m c o h, bigSep_singleton, payload_send]
theorem rest_recv (h : o ≠ 0) : bigSep ((sched (F := F) m).duties (recvCell c o) 0 \ ∅) (fun d => (sched (F := F) m).payload (recvCell c o) 0 d)
    = winPts c o (allB m c) := by
  rw [Finset.sdiff_empty, duties_recv m c o h, bigSep_singleton, payload_recv]

end Sched

/-! ## What is owed, and the levels -/

/-- The units still to be given at the barriers, and the credits still to be given by copies, for the offsets of a list. -/
def sigOwe (c : Dev nD) : List (Fin 16) → CellTallies nD τ sig Unit
  | [] => 0
  | o :: l => sigOwe c l + tallyAt (barCell (tgt c o)) () 1
def sendOwe (c : Dev nD) : List (Fin 16) → CellTallies nD τ sig Unit
  | [] => 0
  | o :: l => sendOwe c l + tallyAt (recvCell (tgt c o) o) () N

def O₀ (c : Dev nD) : CellTallies nD τ sig Unit := sendOwe c offs + sigOwe c offs

def L (g : GSem nD τ sig) : Finset Unit := if g.1.2 = .tc then {()} else ∅
/-- Barriers at 1, receive semaphores at 2, the rest at 0. -/
def lvAt : SemLoc sig → ℕ
  | .reg _ => 1
  | .dma q => if q.val < 20 then 0 else 2
def lv (g : GSem nD τ sig) (_ : Unit) : ℕ := lvAt g.2

theorem L_of_ne (g : GSem nD τ sig) (h : g.1.2 ≠ .tc) : L g = ∅ := if_neg h
theorem L_tc (c : Dev nD) (sm : SemLoc sig) : L ((c : Thread nD τ), sm) = {()} := if_pos rfl

theorem tallyAt_pos {g g' : GSem nD τ sig} {u : Unit} {k : ℕ} (h : 0 < (tallyAt g () k : CellTallies nD τ sig Unit) g' u) : g' = g := by
  rw [tallyAt_apply] at h
  by_contra hn
  rw [if_neg fun e => hn e.1] at h
  exact Nat.lt_irrefl 0 h

theorem sigOwe_pos (c : Dev nD) {g : GSem nD τ sig} {u : Unit} : ∀ l : List (Fin 16), 0 < sigOwe c l g u → ∃ d, g = barCell d
  | [], h => absurd h (Nat.lt_irrefl 0)
  | o :: l, h => by
    unfold sigOwe at h
    rw [Pi.add_apply, Finsupp.add_apply] at h
    rcases Nat.eq_zero_or_pos (sigOwe c l g u) with h0 | h0
    · rw [h0, Nat.zero_add] at h; exact ⟨_, tallyAt_pos h⟩
    · exact sigOwe_pos c l h0
theorem sendOwe_pos (c : Dev nD) {g : GSem nD τ sig} {u : Unit} : ∀ l : List (Fin 16), 0 < sendOwe c l g u → ∃ d o, g = recvCell d o
  | [], h => absurd h (Nat.lt_irrefl 0)
  | o :: l, h => by
    unfold sendOwe at h
    rw [Pi.add_apply, Finsupp.add_apply] at h
    rcases Nat.eq_zero_or_pos (sendOwe c l g u) with h0 | h0
    · rw [h0, Nat.zero_add] at h; exact ⟨_, _, tallyAt_pos h⟩
    · exact sendOwe_pos c l h0

theorem lv_recv (d : Dev nD) (o : Fin 16) (u : Unit) : lv (recvCell d o) u = 2 := by
  show (if (recvS o).val < 20 then 0 else 2) = 2
  rw [if_neg (by rw [recvS_val]; omega)]

omit [FloatOps F] in
/-- While its staging copies are waited for, a device may owe all of its launch debt or nothing. -/
theorem mayWait_stage (c : Dev nD) (q : DmaSem sig) (hq : q.val < 20) (O : CellTallies nD τ sig Unit) (hO : O = O₀ c ∨ O = 0) :
    (levAts L lv : sProp 𝕄) ⊢ MayWait (c : Thread nD τ) (.dma q) () O := by
  rcases hO with rfl | rfl
  · have hpos {g : GSem nD τ sig} {u : Unit} (h : 0 < O₀ c g u) : (∃ d, g = barCell d) ∨ ∃ d o, g = recvCell d o := by
      unfold O₀ at h
      rw [Pi.add_apply, Finsupp.add_apply] at h
      rcases Nat.eq_zero_or_pos (sendOwe c offs g u) with h0 | h0
      · rw [h0, Nat.zero_add] at h; exact Or.inl (sigOwe_pos c offs h)
      · exact Or.inr (sendOwe_pos c offs h0)
    refine MayOwe.of_cut (L := L) (lev := lv) 0 (fun p hp => by rw [Finset.mem_singleton.mp hp, L_tc]; exact Finset.mem_singleton_self _)
      (fun g u hg => by rcases hpos hg with ⟨d, rfl⟩ | ⟨d, o, rfl⟩ <;> exact Finset.mem_singleton_self _)
      (fun p hp => by
        rw [Finset.mem_singleton.mp hp]
        show (if q.val < 20 then 0 else 2) ≤ 0
        rw [if_pos hq])
      (fun g u hg => by
        rcases hpos hg with ⟨d, rfl⟩ | ⟨d, o, rfl⟩
        · exact Nat.one_pos
        · rw [lv_recv]; decide)
  · rw [MayWait_zero]; iintro -; iempintro

omit [FloatOps F] in
/-- At its barrier a device owes only what its copies will pay, above its barrier. -/
theorem mayWait_bar (c : Dev nD) (l : List (Fin 16)) :
    (levAts L lv : sProp 𝕄) ⊢ MayWait (c : Thread nD τ) (.reg barS) () (sendOwe c l) :=
  MayOwe.of_cut (L := L) (lev := lv) 1 (fun p hp => by rw [Finset.mem_singleton.mp hp, L_tc]; exact Finset.mem_singleton_self _)
    (fun g u hg => by obtain ⟨d, o, rfl⟩ := sendOwe_pos c l hg; exact Finset.mem_singleton_self _)
    (fun p hp => by rw [Finset.mem_singleton.mp hp]; exact le_refl 1)
    (fun g u hg => by obtain ⟨d, o, rfl⟩ := sendOwe_pos c l hg; rw [lv_recv]; decide)

end Cert.MoeProof

end
-- ==== Proof.Folds.lean ====
/-
# The three repetitions of the body, each by induction on its list of offsets
-/
module

public import proofs.«01_k».proof.Proof.Protocol

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## Separating conjunctions over a list -/

def starL {I : Type} (Φ : I → sProp 𝕄) : List I → sProp 𝕄
  | [] => iprop(emp)
  | i :: l => iprop(Φ i ∗ starL Φ l)

omit [FloatOps F] in
theorem starL_eq {I : Type} [DecidableEq I] (Φ : I → sProp 𝕄) : ∀ l : List I, l.Nodup → starL Φ l = bigSep l.toFinset Φ
  | [], _ => by rw [List.toFinset_nil, bigSep_empty]; rfl
  | i :: l, h => by
    rw [List.toFinset_cons, bigSep_insert (fun hi => (List.nodup_cons.mp h).1 (List.mem_toFinset.mp hi)), ← starL_eq Φ l (List.nodup_cons.mp h).2]
    rfl

theorem offs_nodup : offs.Nodup := by decide
theorem offs_toFinset : offs.toFinset = others := by decide
theorem offs_ne_zero : ∀ o ∈ offs, o ≠ 0 := by decide

omit [FloatOps F] in
theorem starL_offs (Φ : Fin 16 → sProp 𝕄) : starL Φ offs = bigSep others Φ := by rw [starL_eq Φ offs offs_nodup, offs_toFinset]
omit [FloatOps F] in
theorem all_eq (Φ : Fin 16 → sProp 𝕄) : bigSep Finset.univ Φ = iprop(Φ 0 ∗ starL Φ offs) := by
  rw [starL_offs]; exact bigSep_erase (Finset.mem_univ 0)

/-! ## What every device may read: the cells' invariants and that each has begun -/

def records (K : Dev nD × Ck → ℕ) : sProp 𝕄 :=
  iprop((bigSep Finset.univ fun ck : Dev nD × Ck => cellInv ER (sched m) (K ck) (kcell ck))
    ∗ bigSep Finset.univ fun ck : Dev nD × Ck => reached ER (kcell ck) 0)

instance records_persistent (K : Dev nD × Ck → ℕ) : BI.Persistent (records (F := F) m K) := by unfold records; infer_instance

theorem inv_at (K : Dev nD × Ck → ℕ) (ck : Dev nD × Ck) : records m K ⊢ (cellInv ER (sched (F := F) m) (K ck) (kcell ck) : sProp 𝕄) := by
  have h : (bigSep Finset.univ fun ck : Dev nD × Ck => (cellInv ER (sched m) (K ck) (kcell ck) : sProp 𝕄)) ⊢ cellInv ER (sched m) (K ck) (kcell ck) :=
    bigSep_elim (Finset.mem_univ ck)
  unfold records
  iintro ⟨H, -⟩
  iapply h; iexact H
theorem reached_at (K : Dev nD × Ck → ℕ) (ck : Dev nD × Ck) : records m K ⊢ (reached ER (kcell ck) 0 : sProp 𝕄) := by
  have h : (bigSep Finset.univ fun ck : Dev nD × Ck => (reached ER (kcell ck) 0 : sProp 𝕄)) ⊢ reached ER (kcell ck) 0 :=
    bigSep_elim (Finset.mem_univ ck)
  unfold records
  iintro ⟨-, H⟩
  iapply h; iexact H

abbrev kBar (c : Dev nD) : Dev nD × Ck := (c, .inl ())
abbrev kSend (c : Dev nD) (o : Fin 16) : Dev nD × Ck := (c, .inr (.inl o))
abbrev kRecv (c : Dev nD) (o : Fin 16) : Dev nD × Ck := (c, .inr (.inr o))

theorem inv_bar (K : Dev nD × Ck → ℕ) (c : Dev nD) : records m K ⊢ (cellInv ER (sched (F := F) m) (K (kBar c)) (barCell c) : sProp 𝕄) := inv_at m K (kBar c)
theorem inv_send (K : Dev nD × Ck → ℕ) (c : Dev nD) (o : Fin 16) : records m K ⊢ (cellInv ER (sched (F := F) m) (K (kSend c o)) (sendCell c o) : sProp 𝕄) := inv_at m K (kSend c o)
theorem inv_recv (K : Dev nD × Ck → ℕ) (c : Dev nD) (o : Fin 16) : records m K ⊢ (cellInv ER (sched (F := F) m) (K (kRecv c o)) (recvCell c o) : sProp 𝕄) := inv_at m K (kRecv c o)
theorem reached_bar (K : Dev nD × Ck → ℕ) (c : Dev nD) : records m K ⊢ (reached ER (barCell c) 0 : sProp 𝕄) := reached_at m K (kBar c)
theorem reached_send (K : Dev nD × Ck → ℕ) (c : Dev nD) (o : Fin 16) : records m K ⊢ (reached ER (sendCell c o) 0 : sProp 𝕄) := reached_at m K (kSend c o)
theorem reached_recv (K : Dev nD × Ck → ℕ) (c : Dev nD) (o : Fin 16) : records m K ⊢ (reached ER (recvCell c o) 0 : sProp 𝕄) := reached_at m K (kRecv c o)

section Folds

variable (K : Dev nD × Ck → ℕ) (c : Dev nD)

/-- The weakest precondition of a program of device `c`. -/
abbrev wpc (c : Dev nD) (Q : PUnit.{1} → sProp 𝕄) (k : P F) : sProp 𝕄 := wp frame (wpE (defs₀ (F := F)) 𝒱₀ (c : Thread nD τ) none) Set.univ k Q

/-- What the unit for the device `o` places on takes: the duty there, and the window of `c`'s own it hands over. -/
def sigNeed (o : Fin 16) : sProp 𝕄 := iprop(dutyTok ER (barCell (tgt c o)) 0 (neg o) ∗ ∃ f, winPts c (neg o) f)

theorem pay_sig (o : Fin 16) : iprop(∃ f, winPts c (neg o) f) = (sched (F := F) m).payload (barCell (tgt c o)) 0 (neg o) := by
  show iprop(∃ f, winPts c (neg o) f) = iprop(∃ f, winPts (tgt (tgt c o) (neg o)) (neg o) f)
  rw [tgt_neg]
theorem amount_bar (d : Dev nD) (j : Fin 16) : (sched (F := F) m).amount (barCell d) 0 j = 1 := rfl

theorem wp_sigs (Q : PUnit.{1} → sProp 𝕄) (O : CellTallies nD τ sig Unit) (W : Waits sig Unit) (k : P F) : ∀ os : List (Fin 16), (∀ o ∈ os, o ≠ 0) →
    iprop(records m K ∗ owes (c : Thread nD τ) (O + sigOwe c os) W ∗ starL (sigNeed c) os)
      ⊢ iprop((owes (c : Thread nD τ) O W -∗ wpc c Q k) -∗ wpc c Q (sigs (os.map (tgt c)) k))
  | [], _ => by
    show iprop(records m K ∗ owes (c : Thread nD τ) (O + 0) W ∗ starL (sigNeed c) []) ⊢ iprop((owes (c : Thread nD τ) O W -∗ wpc c Q k) -∗ wpc c Q k)
    rw [add_zero]
    iintro ⟨-, HO, -⟩ Hk
    iapply Hk; iexact HO
  | o :: os, h => by
    have hne : neg o ∈ others := Finset.mem_erase.mpr ⟨neg_ne_zero (h o (List.mem_cons_self ..)), Finset.mem_univ _⟩
    show iprop(records m K ∗ owes (c : Thread nD τ) (O + sigOwe c (o :: os)) W ∗ sigNeed c o ∗ starL (sigNeed c) os)
      ⊢ iprop((owes (c : Thread nD τ) O W -∗ wpc c Q k) -∗ wpc c Q (.op (.semSignal (tgt c o, .tc) barS ((1 : ℕ) : ℤ)) fun _ => sigs (os.map (tgt c)) k))
    unfold sigNeed
    iintro ⟨#HR, HO, ⟨Ht, Hw⟩, Hs⟩ Hk
    iapply (Rounds.wp_signal 𝒱₀ ER (sched m) (c : Thread nD τ) none (dst := (tgt c o : Thread nD τ)) (κ := K (kBar (tgt c o)))
        (r := 0) (d := neg o) (by rw [duties_bar]; exact hne) (amount_bar m (tgt c o) (neg o)) () (O₀ := O + sigOwe c (o :: os)) (O + sigOwe c os) (add_assoc _ _ _).symm) $$ [HO Ht Hw]
    · isplitr; · iapply (inv_bar m K (tgt c o)); iexact HR
      isplitl [HO]; · iexact HO
      isplitl [Ht]; · iexact Ht
      isplitl [Hw]
      · iapply (Entails.of_eq (pay_sig m c o)); iexact Hw
      iapply (reached_bar m K (tgt c o)); iexact HR
    iintro HO
    iapply (wp_sigs Q O W k os fun o' ho' => h o' (List.mem_cons_of_mem _ ho')) $$ [HO Hs]
    · isplitr; · iexact HR
      isplitl [HO]; · iexact HO
      unfold sigNeed; iexact Hs
    iexact Hk

/-- What the copy at `o` takes: a share of the own rows, the peer's window, and the two duties. -/
def sendNeed (o : Fin 16) : sProp 𝕄 :=
  iprop(lentPts m c o ∗ (∃ f, winPts (tgt c o) o f) ∗ dutyTok ER (sendCell c o) 0 0 ∗ dutyTok ER (recvCell (tgt c o) o) 0 0)

/-- One copy. -/
theorem wp_send_one (Q : PUnit.{1} → sProp 𝕄) (o : Fin 16) (h : o ≠ 0) {hsc : (winM o : Memref sig (Dev.tc (tgt c o) : Thread nD τ).2.kind .vmem S24x512 .bf16).view.ref.isScScratch = false}
    {hsrc : (ownM : Memref sig .tc .vmem S24x512 .bf16).view.WordExact} {hdst : (winM o : Memref sig .tc .vmem S24x512 .bf16).view.WordExact}
    {hsem : DmaTarget.Typed .vmem (.dma (recvS o)) (.remote (Dev.tc (tgt c o) : Thread nD τ) (winM o : Memref sig .tc .vmem S24x512 .bf16) (.dma (sendS o)) hsc)}
    {k : PUnit → P F}
    (fd : Buf (Elt F) ((winM o : Memref sig .tc .vmem S24x512 .bf16).view.loc (tgt c o : Thread nD τ))) (O : CellTallies nD τ sig Unit) (W : Waits sig Unit) :
    iprop(records m K ∗ lentPts m c o ∗ winPts (tgt c o) o fd ∗ owes (c : Thread nD τ) (O + tallyAt (recvCell (tgt c o) o) () N) W
        ∗ dutyTok ER (sendCell c o) 0 0 ∗ dutyTok ER (recvCell (tgt c o) o) 0 0)
      ⊢ iprop(((cred (tallyAt (sendCell c o) () N) ∗ owes (c : Thread nD τ) O W) -∗ wpc c Q (k ⟨⟩))
          -∗ wpc c Q (.op (.enqueueDma ownM (.remote (Dev.tc (tgt c o) : Thread nD τ) (winM o) (.dma (sendS o)) hsc) (.dma (recvS o)) hsrc hdst hsem) k)) := by
  iintro ⟨#HR, Hs, Hd, HO, Ht, Ht'⟩ Hk
  unfold lentPts winPts
  iapply (Rounds.wp_send_pointsTo 𝒱₀ ER (sched m) (c : Thread nD τ) none (κ₁ := K (kSend c o)) (κ₂ := K (kRecv (tgt c o) o))
    (r₁ := 0) (r₂ := 0) (d₁ := 0) (d₂ := 0) (fd := fd) (fs := ownB m c) (q := Transfers.shareTok fullShare 16 o)
    (by rw [duties_send m c o h]; exact Finset.mem_singleton_self _) (by rw [duties_recv m _ o h]; exact Finset.mem_singleton_self _)
    () () N rfl rfl rfl O rfl (W := W)
    (by rw [payload_send]; exact BI.Entails.refl _)
    (by
      rw [payload_recv]; unfold winPts
      exact Entails.of_eq (pointsTo_congr fun i hi => landed_eq m (tgt c o) c o (src_tgt c o).symm fd i hi))) $$ [Hs Hd HO Ht Ht']
  · isplitr; · iapply (inv_send m K c o); iexact HR
    isplitr; · iapply (inv_recv m K (tgt c o) o); iexact HR
    isplitl [Hs]; · iexact Hs
    isplitl [Hd]; · iexact Hd
    isplitl [HO]; · iexact HO
    isplitl [Ht]; · iexact Ht
    isplitr; · iapply (reached_send m K c o); iexact HR
    isplitl [Ht']; · iexact Ht'
    iapply (reached_recv m K (tgt c o) o); iexact HR
  iexact Hk

theorem wp_sends (Q : PUnit.{1} → sProp 𝕄) (W : Waits sig Unit) (k : P F) : ∀ os : List (Fin 16), (∀ o ∈ os, o ≠ 0) →
    iprop(records m K ∗ owes (c : Thread nD τ) (sendOwe c os) W ∗ starL (sendNeed m c) os)
      ⊢ iprop(((owes (c : Thread nD τ) 0 W ∗ starL (fun o => cred (tallyAt (sendCell c o) () N)) os) -∗ wpc c Q k)
          -∗ wpc c Q (sends (os.map fun o => (tgt c o, o)) k))
  | [], _ => by
    show iprop(records m K ∗ owes (c : Thread nD τ) 0 W ∗ emp) ⊢ iprop(((owes (c : Thread nD τ) 0 W ∗ emp) -∗ wpc c Q k) -∗ wpc c Q k)
    iintro ⟨-, HO, He⟩ Hk
    iapply Hk
    isplitl [HO] <;> iassumption
  | o :: os, h => by
    show iprop(records m K ∗ owes (c : Thread nD τ) (sendOwe c os + tallyAt (recvCell (tgt c o) o) () N) W ∗ sendNeed m c o ∗ starL (sendNeed m c) os)
      ⊢ iprop(((owes (c : Thread nD τ) 0 W ∗ cred (tallyAt (sendCell c o) () N) ∗ starL (fun o => cred (tallyAt (sendCell c o) () N)) os) -∗ wpc c Q k)
          -∗ wpc c Q (.op (.enqueueDma ownM (.remote (Dev.tc (tgt c o)) (winM o) (.dma (sendS o))) (.dma (recvS o))
            (Memref.isWhole_whole _).wordExact ((Memref.isWhole_whole _).wordExact_slice rfl _ (win_words o)) ⟨⟨rfl, Or.inl rfl⟩, trivial⟩)
            fun _ => sends (os.map fun o => (tgt c o, o)) k))
    iintro ⟨#HR, HO, Hn, Hs⟩ Hk
    unfold sendNeed
    icases Hn with ⟨Hl, ⟨%fd, Hw⟩, Ht, Ht'⟩
    iapply (wp_send_one m K c Q o (h o (List.mem_cons_self ..)) fd (sendOwe c os) W) $$ [HO Hl Hw Ht Ht']
    · isplitr; · iexact HR
      isplitl [Hl]; · iexact Hl
      isplitl [Hw]; · iexact Hw
      isplitl [HO]; · iexact HO
      isplitl [Ht] <;> iassumption
    iintro ⟨Hc, HO⟩
    iapply (wp_sends Q W k os fun o' ho' => h o' (List.mem_cons_of_mem _ ho')) $$ [HO Hs]
    · isplitr; · iexact HR
      isplitl [HO]; · iexact HO
      unfold sendNeed; iexact Hs
    iintro ⟨HO, Hcs⟩
    iapply Hk
    isplitl [HO]; · iexact HO
    isplitl [Hc] <;> iassumption

/-- What the two waits at `o` take and give. -/
def waitNeed (o : Fin 16) : sProp 𝕄 :=
  iprop(cred (tallyAt (sendCell c o) () N) ∗ cred (tallyAt (recvCell c o) () N) ∗ atPos ER (sendCell c o) 0 ∅ 0 ∗ atPos ER (recvCell c o) 0 ∅ 0)
def waitGive (o : Fin 16) : sProp 𝕄 :=
  iprop(lentPts m c o ∗ winPts c o (allB m c) ∗ semVal (sendCell c o) 0 ∗ semVal (recvCell c o) 0)

theorem wp_waits (Q : PUnit.{1} → sProp 𝕄) (k : P F) : ∀ os : List (Fin 16), (∀ o ∈ os, o ≠ 0) →
    iprop(records m K ∗ (∃ W, owes (c : Thread nD τ) 0 W) ∗ starL (waitNeed c) os)
      ⊢ iprop((((∃ W, owes (c : Thread nD τ) 0 W) ∗ starL (waitGive m c) os) -∗ wpc c Q k) -∗ wpc c Q (waits os k))
  | [], _ => by
    show iprop(records m K ∗ (∃ W, owes (c : Thread nD τ) 0 W) ∗ emp) ⊢ iprop((((∃ W, owes (c : Thread nD τ) 0 W) ∗ emp) -∗ wpc c Q k) -∗ wpc c Q k)
    iintro ⟨-, HO, He⟩ Hk
    iapply Hk
    isplitl [HO] <;> iassumption
  | o :: os, h => by
    have ho := h o (List.mem_cons_self ..)
    show iprop(records m K ∗ (∃ W, owes (c : Thread nD τ) 0 W) ∗ waitNeed c o ∗ starL (waitNeed c) os)
      ⊢ iprop((((∃ W, owes (c : Thread nD τ) 0 W) ∗ waitGive m c o ∗ starL (waitGive m c) os) -∗ wpc c Q k)
        -∗ wpc c Q (.op (.waitDma2 (sendS o) (winM o) ownM ((Memref.isWhole_whole _).wordExact_slice rfl _ (win_words o)) (Memref.isWhole_whole _).wordExact) fun _ =>
          .op (.waitDma2 (recvS o) ownM (winM o) (Memref.isWhole_whole _).wordExact ((Memref.isWhole_whole _).wordExact_slice rfl _ (win_words o))) fun _ => waits os k))
    iintro ⟨#HR, ⟨%W, HO⟩, Hn, Hs⟩ Hk
    unfold waitNeed
    icases Hn with ⟨Hcs, Hcr, Has, Har⟩
    iapply (Rounds.wp_wait_rest_token 𝒱₀ ER (sched m) (c : Thread nD τ) none (κ := K (kSend c o))
        (wpE_waitDma2_eq 𝒱₀ (c : Thread nD τ) none Set.univ) (Set.mem_univ _) () (O := 0) (W := W) (R := 0) (m := 0) (T := ∅)
        (by rw [Nat.zero_add]; exact (expect_send m c o ho).symm)) $$ [Hcs HO Has]
    · isplitr; · iapply (inv_send m K c o); iexact HR
      isplitl [Hcs]; · iexact Hcs
      isplitl [HO]; · iexact HO
      isplitr; · rw [MayWait_zero]; iempintro
      iexact Has
    iintro ⟨HO, Has, -, Hpay⟩
    ihave Hl := (Entails.of_eq (rest_send m c o ho)) $$ Hpay
    iapply (Rounds.wp_wait_rest_token 𝒱₀ ER (sched m) (c : Thread nD τ) none (κ := K (kRecv c o))
        (wpE_waitDma2_eq 𝒱₀ (c : Thread nD τ) none Set.univ) (Set.mem_univ _) () (O := 0) (W := insert (SemLoc.dma (sendS o), ()) W) (R := 0) (m := 0) (T := ∅)
        (by rw [Nat.zero_add]; exact (expect_recv m c o ho).symm)) $$ [Hcr HO Har]
    · isplitr; · iapply (inv_recv m K c o); iexact HR
      isplitl [Hcr]; · iexact Hcr
      isplitl [HO]; · iexact HO
      isplitr; · rw [MayWait_zero]; iempintro
      iexact Har
    iintro ⟨HO, Har, -, Hpay⟩
    ihave Hw := (Entails.of_eq (rest_recv m c o ho)) $$ Hpay
    imod (Rounds.cell_close ER (sched m) (Set.mem_univ (K (kSend c o))) (fun h => h) (R := 0 + 1) (duties_later m (sendCell c o))) $$ [Has] with HzS
    · isplitr; · iapply (inv_send m K c o); iexact HR
      iexact Has
    imod (Rounds.cell_close ER (sched m) (Set.mem_univ (K (kRecv c o))) (fun h => h) (R := 0 + 1) (duties_later m (recvCell c o))) $$ [Har] with HzR
    · isplitr; · iapply (inv_recv m K c o); iexact HR
      iexact Har
    iapply (wp_waits Q k os fun o' ho' => h o' (List.mem_cons_of_mem _ ho')) $$ [HO Hs]
    · isplitr; · iexact HR
      isplitl [HO]; · iexists _; iexact HO
      unfold waitNeed; iexact Hs
    iintro ⟨HO, Hg⟩
    iapply Hk
    isplitl [HO]; · iexact HO
    isplitl [Hl Hw HzS HzR]
    · unfold waitGive
      isplitl [Hl]; · iexact Hl
      isplitl [Hw]; · iexact Hw
      isplitl [HzS] <;> iassumption
    iexact Hg

end Folds

end Cert.MoeProof

end
-- ==== Proof.Body.lean ====
/-
# The body of one device
-/
module

public import proofs.«01_k».proof.Proof.Folds
public import Idealize.ShloMosaic.Lib.Ring

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-! ## What the body starts from and ends with -/

/-- The tokens of the duties device `c` pays. -/
def payToks (c : Dev nD) : sProp 𝕄 :=
  iprop((bigSep Finset.univ fun j : Fin 16 => dutyTok ER (barCell (tgt c j)) 0 (neg j))
    ∗ (bigSep Finset.univ fun o : Fin 16 => dutyTok ER (sendCell c o) 0 0)
    ∗ (bigSep Finset.univ fun o : Fin 16 => dutyTok ER (recvCell (tgt c o) o) 0 0))

/-- Device `c`'s part of the exchange's ghost state. -/
def ghost (K : Dev nD × Ck → ℕ) (c : Dev nD) : sProp 𝕄 :=
  iprop(records m K
    ∗ (atPos ER (barCell c) 0 ∅ 0 ∗ (bigSep Finset.univ fun o : Fin 16 => atPos ER (sendCell c o) 0 ∅ 0)
      ∗ (bigSep Finset.univ fun o : Fin 16 => atPos ER (recvCell c o) 0 ∅ 0))
    ∗ payToks c)

def start (c : Dev nD) : sProp 𝕄 :=
  iprop((∃ K, ghost m K c) ∗ cred (tallyAt (barCell c) () 15) ∗ starL (fun o => cred (tallyAt (recvCell c o) () N)) offs ∗ levAts L lv)

def ownPts (c : Dev nD) (f : (cc0_scratch0 : Ref sig .tc).ty.Contents (Elt F)) : sProp 𝕄 := ((c : Thread nD τ).loc cc0_scratch0) ↦{fullShare} f
def allPts (c : Dev nD) (f : (cc0_scratch1 : Ref sig .tc).ty.Contents (Elt F)) : sProp 𝕄 := ((c : Thread nD τ).loc cc0_scratch1) ↦{fullShare} f

def Φ₀ (c : Dev nD) : sProp 𝕄 := iprop(start m c ∗ (∃ f, ownPts c f) ∗ ∃ f, allPts c f)
def Φ₁ (c : Dev nD) : sProp 𝕄 :=
  iprop((ownPts c (ownB m c) ∗ allPts c (allB m c)) ∗ semVal (barCell c) 0
    ∗ (bigSep Finset.univ fun o : Fin 16 => semVal (sendCell c o) 0) ∗ (bigSep Finset.univ fun o : Fin 16 => semVal (recvCell c o) 0))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xS m c
    | ⟨1, _⟩ => rS m c
    | ⟨2, _⟩ => wS m c
    | ⟨3, _⟩ => outB m c
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## Reads and writes of whole buffers, and of the two halves of the own rows -/

theorem hz : (![0, 0] : Fin 2 → Nat) = fun _ => 0 := funext fun a => by fin_cases a <;> rfl
omit [FloatOps F] in
theorem read_route (f : (cc0_stg1_0 : Ref sig .tc).ty.Contents (Elt F)) : (routeM : Memref sig .tc .vmem S512x1 .i32).view.readAt (Elt F) rRoute.toLoadRect f = f :=
  Memref.readAt_unit_zero (Elt F) cc0_stg1_0 hz _ f
omit [FloatOps F] in
theorem read_x (f : (cc0_stg0_0 : Ref sig .tc).ty.Contents (Elt F)) : (xM : Memref sig .tc .vmem S512x256 .f32).view.readAt (Elt F) rX.toLoadRect f = f :=
  Memref.readAt_unit_zero (Elt F) cc0_stg0_0 hz _ f
omit [FloatOps F] in
theorem read_own (f : (cc0_scratch0 : Ref sig .tc).ty.Contents (Elt F)) : (ownM : Memref sig .tc .vmem S24x512 .bf16).view.readAt (Elt F) rOwn.toLoadRect f = f :=
  Memref.readAt_unit_zero (Elt F) cc0_scratch0 hz _ f
omit [FloatOps F] in
theorem read_all (f : (cc0_scratch1 : Ref sig .tc).ty.Contents (Elt F)) : (allM : Memref sig .tc .vmem S384x512 .bf16).view.readAt (Elt F) rAll.toLoadRect f = f :=
  Memref.readAt_unit_zero (Elt F) cc0_scratch1 hz _ f
omit [FloatOps F] in
theorem write_out (f w : (cc0_stg3_0 : Ref sig .tc).ty.Contents (Elt F)) :
    ((outM : Memref sig .tc .vmem S32x512 .f32).access rOut : View sig .tc _ _ _).write (Elt F) f w Finset.univ = w :=
  Memref.write_access_unit_zero_univ (Elt F) cc0_stg3_0 hz _ f w

omit [FloatOps F] in
theorem write_at {s : Shape} {e : EltTy} (v : View sig .tc .vmem s e) (f : v.ty.Contents (Elt F)) (w : s.Idx → Elt F e) (x : s.Idx) (i : v.ty.Idx)
    (hx : v.emb x = i) : v.write (Elt F) f w Finset.univ i = cast (congrArg (Elt F) v.elt_eq.symm) (w x) := by
  subst hx; exact View.write_emb_of_mem f w (Finset.mem_univ x)

abbrev vLo : View sig .tc .vmem S12x512 .bf16 := (ownM : Memref sig .tc .vmem S24x512 .bf16).access rLo
abbrev vHi : View sig .tc .vmem S12x512 .bf16 := (ownM : Memref sig .tc .vmem S24x512 .bf16).access rHi

omit [FloatOps F] in
/-- Twelve rows written at the top and twelve below: every row is written. -/
theorem write_halves (f : (cc0_scratch0 : Ref sig .tc).ty.Contents (Elt F)) (a b : FVec F S12x512 .bf16) :
    vHi.write (Elt F) (vLo.write (Elt F) f a Finset.univ) b Finset.univ = halves a b := by
  funext (i : S24x512.Idx)
  have hi0 : (i 0).val < 24 := (i 0).isLt
  unfold halves
  by_cases h : (i 0).val < 12
  · rw [dif_pos h]
    have hn : i ∉ vHi.setOn Finset.univ := fun hm => by
      have hm' : i ∈ rHi.set := (View.set_slice_whole (cc0_scratch0 : Ref sig .tc) rHi) ▸ hm
      have h0 : 12 ≤ (i 0).val ∧ (i 0).val < 12 + 12 := Rect.mem_set_unit.mp hm' 0
      omega
    exact (View.write_of_not_mem _ _ _ hn).trans (write_at (F := F) vLo f a (ix2 ⟨(i 0).val, h⟩ (i 1)) i
      (idx2_ext (d := ![24, 512]) (by show 0 + 1 * (i 0).val = _; omega) (by show 0 + 1 * (i 1).val = _; omega)))
  · rw [dif_neg h]
    exact write_at (F := F) vHi _ b (ix2 ⟨(i 0).val - 12, hi_lt i⟩ (i 1)) i
      (idx2_ext (d := ![24, 512]) (by show 12 + 1 * ((i 0).val - 12) = _; omega) (by show 0 + 1 * (i 1).val = _; omega))

theorem src_zero : ∀ c : Dev nD, src c 0 = c := by decide

/-! ## Windows and shares -/

omit [FloatOps F] in
theorem allPts_eq (c : Dev nD) (f : (cc0_scratch1 : Ref sig .tc).ty.Contents (Elt F)) :
    allPts c f = (bigSep Finset.univ fun o : Fin 16 => winPts c o f : sProp 𝕄) :=
  Ring.pointsTo_blocks (ℓ := (c : Thread nD τ).loc cc0_scratch1) (B := Fin 16) winSet winSet_disjoint winSet_cover f

theorem neg_zero' : neg 0 = 0 := by decide
def negE : Fin 16 ≃ Fin 16 := ⟨neg, neg, neg_neg, neg_neg⟩

omit [FloatOps F] in
theorem starL_sep (A B : Fin 16 → sProp 𝕄) : starL (fun i => iprop(A i ∗ B i)) offs = iprop(starL A offs ∗ starL B offs) := by
  rw [starL_offs, starL_offs, starL_offs]; exact bigSep_sep' _ _ _

omit [FloatOps F] in
/-- The landing buffer as window 0 and the fifteen windows to hand over. -/
theorem allPts_split (c : Dev nD) (f : (cc0_scratch1 : Ref sig .tc).ty.Contents (Elt F)) :
    allPts c f ⊢ (iprop(winPts c 0 f ∗ starL (fun o => iprop(∃ f, winPts c (neg o) f)) offs) : sProp 𝕄) := by
  rw [allPts_eq, bigSep_univ_equiv negE, all_eq, starL_offs, starL_offs]
  exact BI.sep_mono (Entails.of_eq (by show winPts c (neg 0) f = _; rw [neg_zero'])) (bigSep_mono fun o _ =>
    show winPts c (neg o) f ⊢ (iprop(∃ f, winPts c (neg o) f) : sProp 𝕄) by iintro H; iexists f; iexact H)

theorem lentPts_eq (c : Dev nD) (o : Fin 16) :
    lentPts m c o = (((c : Thread nD τ).loc cc0_scratch0) ↦[Finset.univ]{Transfers.shareTok fullShare 16 o} ownB m c : sProp 𝕄) :=
  congrArg (fun S => (((c : Thread nD τ).loc cc0_scratch0) ↦[S]{Transfers.shareTok fullShare 16 o} ownB m c : sProp 𝕄)) (View.set_whole cc0_scratch0)
theorem ownPts_split (c : Dev nD) :
    ownPts c (ownB m c) ⊢ (iprop((((c : Thread nD τ).loc cc0_scratch0) ↦[Finset.univ]{Transfers.shareDrop fullShare 16} ownB m c) ∗ lentPts m c 0 ∗ starL (lentPts m c) offs) : sProp 𝕄) := by
  refine (Transfers.pointsTo_toks_split fullShare 16).trans (sep_mono_right (Entails.of_eq ?_))
  rw [← all_eq]
  exact bigSep_congr fun o _ => (lentPts_eq m c o).symm
theorem ownPts_join (c : Dev nD) :
    (iprop((((c : Thread nD τ).loc cc0_scratch0) ↦[Finset.univ]{Transfers.shareDrop fullShare 16} ownB m c) ∗ lentPts m c 0 ∗ starL (lentPts m c) offs) : sProp 𝕄) ⊢ ownPts c (ownB m c) := by
  refine BIBase.Entails.trans (sep_mono_right (Entails.of_eq ?_)) (Transfers.pointsTo_toks_join fullShare 16)
  rw [← all_eq]
  exact bigSep_congr fun o _ => lentPts_eq m c o

/-! ## The run of the body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

abbrev at_ (c : Dev nD) (b : Ref sig .tc) (X : b.ty.Contents (Elt F)) : sProp 𝕄 := ((c : Thread nD τ).loc b) ↦{fullShare} X

section Run
variable (K : Dev nD × Ck → ℕ) (c : Dev nD)

/-- The packing: own rows and window 0 end as stated. -/
theorem wp_pack (Q : PUnit.{1} → sProp 𝕄) (l : List (Dev nD × Fin 16)) (f : (cc0_scratch0 : Ref sig .tc).ty.Contents (Elt F)) (f' : (cc0_scratch1 : Ref sig .tc).ty.Contents (Elt F)) :
    iprop(at_ c cc0_stg0_0 (xS m c) ∗ at_ c cc0_stg1_0 (rS m c) ∗ at_ c cc0_stg2_0 (wS m c) ∗ ownPts c f ∗ winPts c 0 f')
      ⊢ iprop(((at_ c cc0_stg0_0 (xS m c) ∗ at_ c cc0_stg1_0 (rS m c) ∗ at_ c cc0_stg2_0 (wS m c) ∗ ownPts c (ownB m c) ∗ winPts c 0 (allB m c))
          -∗ wpc c Q (exchange c (rS m c) l)) -∗ wpc c Q (pack c l)) := by
  unfold pack
  iintro ⟨Hx, Hr, Hw, Ho, Ha⟩ Hk
  unfold ownPts winPts
  iapply (wp_load 𝒱₀ (c : Thread nD τ) none Set.univ (m := routeM) (Finset.subset_univ _)) $$ Hr; iintro Hr
  rw [read_route]
  iapply (wp_load 𝒱₀ (c : Thread nD τ) none Set.univ (m := xM) (Finset.subset_univ _)) $$ Hx; iintro Hx
  rw [read_x]
  iapply (wp_load 𝒱₀ (c : Thread nD τ) none Set.univ (m := wM) (Finset.subset_univ _)) $$ Hw; iintro Hw
  iapply (wp_load 𝒱₀ (c : Thread nD τ) none Set.univ (m := ownM) (Finset.subset_univ _)) $$ Ho; iintro Ho
  iapply (wp_store 𝒱₀ (c : Thread nD τ) none Set.univ (m := ownM) (r := rLo) (Mk := Finset.univ) (Finset.subset_univ _)) $$ Ho; iintro Ho
  iapply (wp_load 𝒱₀ (c : Thread nD τ) none Set.univ (m := wM) (Finset.subset_univ _)) $$ Hw; iintro Hw
  iapply (wp_load 𝒱₀ (c : Thread nD τ) none Set.univ (m := ownM) (Finset.subset_univ _)) $$ Ho; iintro Ho
  iapply (wp_store 𝒱₀ (c : Thread nD τ) none Set.univ (m := ownM) (r := rHi) (Mk := Finset.univ) (Finset.subset_univ _)) $$ Ho; iintro Ho
  rw [write_halves]
  iapply (wp_load 𝒱₀ (c : Thread nD τ) none Set.univ (m := ownM) (Finset.subset_univ _)) $$ Ho; iintro Ho
  rw [read_own]
  iapply (wp_load 𝒱₀ (c : Thread nD τ) none Set.univ (m := allM) (S := winSet 0) (View.set_slice (v := (allM : Memref sig .tc .vmem S384x512 .bf16).view) (winR 0)).symm.subset) $$ Ha; iintro Ha
  iapply (wp_store 𝒱₀ (c : Thread nD τ) none Set.univ (m := allM) (r := winR 0) (Mk := Finset.univ) (S := winSet 0) (Finset.Subset.refl _)) $$ Ha; iintro Ha
  iapply Hk
  isplitl [Hx]; · iexact Hx
  isplitl [Hr]; · iexact Hr
  isplitl [Hw]; · iexact Hw
  isplitl [Ho]; · iexact Ho
  have e : ∀ i ∈ winSet 0, ((allM : Memref sig .tc .vmem S384x512 .bf16).access (winR 0) : View sig .tc _ _ _).write (Elt F) f' (k0_pay10 (ownB m c)) Finset.univ i = allB m c i := fun i hi => by
    have hp : k0_pay10 (ownB m c) = ownB m c := funext fun i => congrArg (ownB m c) (Shape.reshapeEquiv_self _ i)
    rw [hp]
    exact landed_eq m c c 0 (src_zero c).symm f' i hi
  iapply (Entails.of_eq (pointsTo_congr e)); iexact Ha

/-- The last reads and the store of the result. -/
theorem wp_finish (Q : PUnit.{1} → sProp 𝕄) (f : (cc0_stg3_0 : Ref sig .tc).ty.Contents (Elt F)) :
    iprop(allPts c (allB m c) ∗ at_ c cc0_stg3_0 f)
      ⊢ iprop(((allPts c (allB m c) ∗ at_ c cc0_stg3_0 (outB m c)) -∗ Q ⟨⟩)
          -∗ wpc c Q (finish (pick c (rS m c) (rMineB m c)))) := by
  unfold finish
  iintro ⟨Ha, Ho⟩ Hk
  unfold allPts
  iapply (wp_load 𝒱₀ (c : Thread nD τ) none Set.univ (m := allM) (Finset.subset_univ _)) $$ Ha; iintro Ha
  rw [read_all]
  iapply (wp_load 𝒱₀ (c : Thread nD τ) none Set.univ (m := outM) (Finset.subset_univ _)) $$ Ho; iintro Ho
  iapply (wp_store 𝒱₀ (c : Thread nD τ) none Set.univ (m := outM) (r := rOut) (Mk := Finset.univ) (Finset.subset_univ _)) $$ Ho; iintro Ho
  rw [write_out, wp_ret]; imodintro
  iapply Hk
  isplitl [Ha]; · iexact Ha
  unfold outB; iexact Ho

/-- The run from the staged inputs and the exchange's ghost state to the result. -/
theorem wp_folded (Q : PUnit.{1} → sProp 𝕄) (W : Waits sig Unit) (f : (cc0_stg3_0 : Ref sig .tc).ty.Contents (Elt F)) :
    iprop(ghost m K c ∗ cred (tallyAt (barCell c) () 15) ∗ starL (fun o => cred (tallyAt (recvCell c o) () N)) offs ∗ levAts L lv
        ∗ (∃ f, ownPts c f) ∗ (∃ f, allPts c f) ∗ owes (c : Thread nD τ) (O₀ c) W
        ∗ at_ c cc0_stg0_0 (xS m c) ∗ at_ c cc0_stg1_0 (rS m c) ∗ at_ c cc0_stg2_0 (wS m c) ∗ at_ c cc0_stg3_0 f)
      ⊢ iprop(((Φ₁ m c ∗ (∃ W, owes (c : Thread nD τ) 0 W)
            ∗ at_ c cc0_stg0_0 (xS m c) ∗ at_ c cc0_stg1_0 (rS m c) ∗ at_ c cc0_stg2_0 (wS m c) ∗ at_ c cc0_stg3_0 (outB m c)) -∗ Q ⟨⟩)
          -∗ wpc c Q (folded c)) := by
  unfold folded ghost payToks
  rw [sigDevs_eq, sendDevs_eq, all_eq, all_eq, all_eq, all_eq, all_eq]
  iintro ⟨⟨#HR, ⟨HaB, ⟨Has0, Has⟩, ⟨Har0, Har⟩⟩, ⟨-, HtB⟩, ⟨-, HtS⟩, ⟨-, HtR⟩⟩, HcB, HcR, #Hlev, ⟨%f0, Hown⟩, ⟨%f1, Hall⟩, HO, Hx, Hr, Hw, Hout⟩ Hk
  -- the signals: every window but the first is handed to the device that will fill it
  ihave Hs := (allPts_split c f1) $$ Hall
  icases Hs with ⟨Hw0, Hws⟩
  unfold O₀
  iapply (wp_sigs m K c Q (sendOwe c offs) W _ offs offs_ne_zero) $$ [HO HtB Hws]
  · isplitr; · iexact HR
    isplitl [HO]; · iexact HO
    unfold sigNeed
    rw [starL_sep]
    isplitl [HtB] <;> iassumption
  iintro HO
  -- the wait for fifteen: the peers' windows
  iapply (Rounds.wp_wait_rest_token 𝒱₀ ER (sched m) (c : Thread nD τ) none (κ := K (kBar c))
      (wpE_semWait_eq 𝒱₀ (c : Thread nD τ) none Set.univ) (Set.mem_univ _) () (O := sendOwe c offs) (W := W) (R := 0) (m := 0) (T := ∅)
      (by rw [expect_bar])) $$ [HcB HO HaB]
  · isplitr; · iapply (inv_bar m K c); iexact HR
    isplitl [HcB]; · iexact HcB
    isplitl [HO]; · iexact HO
    isplitr; · iapply (mayWait_bar c offs); iexact Hlev
    iexact HaB
  iintro ⟨HO, HaB, -, Hpay⟩
  ihave Hp := (Entails.of_eq ((rest_bar m c).trans (starL_offs _).symm)) $$ Hpay
  -- the own rows
  iapply (wp_pack m c Q _ f0 f1) $$ [Hx Hr Hw Hown Hw0]
  · isplitl [Hx]; · iexact Hx
    isplitl [Hr]; · iexact Hr
    isplitl [Hw]; · iexact Hw
    isplitl [Hown] <;> iassumption
  iintro ⟨Hx, Hr, Hw, Hown, Hw0⟩
  -- the copies, each with a share of them
  unfold exchange
  ihave Hsp := (ownPts_split m c) $$ Hown
  icases Hsp with ⟨Hdrop, Hl0, Hls⟩
  iapply (wp_sends m K c Q _ _ offs offs_ne_zero) $$ [HO Hls Hp HtS HtR]
  · isplitr; · iexact HR
    isplitl [HO]; · iexact HO
    unfold sendNeed
    rw [starL_sep, starL_sep, starL_sep]
    isplitl [Hls]; · iexact Hls
    isplitl [Hp]; · iexact Hp
    isplitl [HtS] <;> iassumption
  iintro ⟨HO, HcS⟩
  iapply (wp_load 𝒱₀ (c : Thread nD τ) none Set.univ (m := routeM) (Finset.subset_univ _)) $$ Hr; iintro Hr
  -- the waits
  iapply (wp_waits m K c Q _ offs offs_ne_zero) $$ [HO HcS HcR Has Har]
  · isplitr; · iexact HR
    isplitl [HO]; · iexists _; iexact HO
    unfold waitNeed
    rw [starL_sep, starL_sep, starL_sep]
    isplitl [HcS]; · iexact HcS
    isplitl [HcR]; · iexact HcR
    isplitl [Has] <;> iassumption
  unfold waitGive
  rw [starL_sep, starL_sep, starL_sep]
  iintro ⟨HO, Hls, Hws, HzS, HzR⟩
  ihave Hown := (ownPts_join m c) $$ [Hdrop Hl0 Hls]
  · isplitl [Hdrop]; · iexact Hdrop
    isplitl [Hl0] <;> iassumption
  ihave Hall := (Entails.of_eq ((allPts_eq c (allB m c)).trans (all_eq _)).symm) $$ [Hw0 Hws]
  · isplitl [Hw0] <;> iassumption
  imod (Rounds.cell_close ER (sched m) (Set.mem_univ (K (kBar c))) (fun h => h) (R := 0 + 1) (duties_later m (barCell c))) $$ [HaB] with HzB
  · isplitr; · iapply (inv_bar m K c); iexact HR
    iexact HaB
  imod (Rounds.cell_close ER (sched m) (Set.mem_univ (K (kSend c 0))) (fun h => h) (R := 0) (duties_send_zero m c)) $$ [Has0] with HzS0
  · isplitr; · iapply (inv_send m K c 0); iexact HR
    iexact Has0
  imod (Rounds.cell_close ER (sched m) (Set.mem_univ (K (kRecv c 0))) (fun h => h) (R := 0) (duties_recv_zero m c)) $$ [Har0] with HzR0
  · isplitr; · iapply (inv_recv m K c 0); iexact HR
    iexact Har0
  iapply (wp_finish m c Q f) $$ [Hall Hout]
  · isplitl [Hall] <;> iassumption
  iintro ⟨Hall, Hout⟩
  iapply Hk
  unfold Φ₁
  rw [all_eq, all_eq]
  isplitl [Hown Hall HzB HzS0 HzS HzR0 HzR]
  · isplitl [Hown Hall]
    · isplitl [Hown] <;> iassumption
    isplitl [HzB]; · iexact HzB
    isplitl [HzS0 HzS]
    · isplitl [HzS0] <;> iassumption
    isplitl [HzR0] <;> iassumption
  isplitl [HO]; · iexact HO
  isplitl [Hx]; · iexact Hx
  isplitl [Hr]; · iexact Hr
  isplitl [Hw]; · iexact Hw
  iexact Hout

def bodyPre (c : Dev nD) : sProp 𝕄 :=
  iprop(Φ₀ m c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))
def bodyPost (c : Dev nD) : sProp 𝕄 :=
  iprop(Φ₁ m c ∗ (dats m ρ 0 c).owesAt () t₀.succ
    ∗ stg c cc0_stg0_0 (xS m c) ∗ stg c cc0_stg1_0 (rS m c) ∗ stg c cc0_stg2_0 (wS m c) ∗ stg c cc0_stg3_0 (outB m c))

theorem fetch_0 : (cfg0.win (0 : Fin 4)).fetch t₀ = true := rfl
theorem fetch_1 : (cfg0.win (1 : Fin 4)).fetch t₀ = true := rfl
theorem fetch_2 : (cfg0.win (2 : Fin 4)).fetch t₀ = true := rfl

end Run

/-- The library's body obligation on core `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ wp frame (wpE (defs₀ (F := F)) 𝒱₀ (c : Thread nD τ) none) Set.univ
    (cc0_body xM (Memref.isWhole_whole _) routeM (Memref.isWhole_whole _) wM (Memref.isWhole_whole _) outM (Memref.isWhole_whole _)
      ownM (Memref.isWhole_whole _) allM (Memref.isWhole_whole _) cc0_scratch2 cc0_scratch3) (fun _ => bodyPost m ρ c)
  rw [cc0_body_eq_skeleton, body_eq, wp_deviceId]
  unfold bodyPre Φ₀ start
  iintro ⟨⟨⟨⟨%K, Hg⟩, HcB, HcR, Hlev⟩, Hown, Hall⟩, Ho, ⟨%d0, %g0, %hg0, Hx⟩, ⟨%d1, %g1, %hg1, Hr⟩, ⟨%d2, %g2, %hg2, Hw⟩, ⟨%d3, %g3, %hg3, Hout⟩⟩
  have hx : g0 = xS m c := by rw [hg0]; unfold Dat.before; rw [if_pos fetch_0]; rfl
  have hr : g1 = rS m c := by rw [hg1]; unfold Dat.before; rw [if_pos fetch_1]; rfl
  have hw : g2 = wS m c := by rw [hg2]; unfold Dat.before; rw [if_pos fetch_2]; rfl
  subst hx hr hw
  unfold Dat.owesAt Pipeline.owesWithin
  icases Ho with ⟨%W, %hW, HO⟩
  rw [show (dats m ρ 0 c).owed t₀.castSucc = O₀ c from rfl]
  iapply (wp_folded m K c (fun _ => bodyPost m ρ c) W g3) $$ [Hg HcB HcR Hlev Hown Hall HO Hx Hr Hw Hout]
  · isplitl [Hg]; · iexact Hg
    isplitl [HcB]; · iexact HcB
    isplitl [HcR]; · iexact HcR
    isplitl [Hlev]; · iexact Hlev
    isplitl [Hown]; · iexact Hown
    isplitl [Hall]; · iexact Hall
    isplitl [HO]; · iexact HO
    isplitl [Hx]; · iexact Hx
    isplitl [Hr]; · iexact Hr
    isplitl [Hw]; · iexact Hw
    iexact Hout
  iintro ⟨HΦ, ⟨%W', HO⟩, Hx, Hr, Hw, Hout⟩
  unfold bodyPost Dat.owesAt Pipeline.owesWithin
  rw [show (dats m ρ 0 c).owed t₀.succ = 0 from rfl]
  isplitl [HΦ]; · iexact HΦ
  isplitl [HO]
  · iexists W'
    isplitr; · ipureintro; exact fun _ _ => Or.inl trivial
    iexact HO
  isplitl [Hx]
  · iexists _; isplitr; · (ipureintro; rfl)
    iexact Hx
  isplitl [Hr]
  · iexists _; isplitr; · (ipureintro; rfl)
    iexact Hr
  isplitl [Hw]
  · iexists _; isplitr; · (ipureintro; rfl)
    iexact Hw
  iexists _; isplitr; · (ipureintro; rfl)
  iexact Hout

end Cert.MoeProof

end
-- ==== Proof.Launch.lean ====
/-
# The launch: from any memory, every device runs to its result
-/
module

public import proofs.«01_k».proof.Proof.Body
public import Idealize.ShloMosaic.Lib.Pipeline.CollectiveSegs

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

/-! ## Cells and duty tokens at the start -/

theorem reg_ne_dma (s : Sem sig) (q : DmaSem sig) : (SemLoc.reg s : SemLoc sig) ≠ .dma q := fun h => by cases h

theorem csem_injective : Function.Injective csem := by
  rintro (a | a | a) (b | b | b) h
  · rfl
  · exact absurd h (reg_ne_dma _ _)
  · exact absurd h (reg_ne_dma _ _)
  · exact absurd h.symm (reg_ne_dma _ _)
  · exact congrArg _ (congrArg _ (sendS_inj (SemLoc.dma.inj h)))
  · exact absurd (SemLoc.dma.inj h) (sendS_ne_recvS a b)
  · exact absurd h.symm (reg_ne_dma _ _)
  · exact absurd (SemLoc.dma.inj h).symm (sendS_ne_recvS b a)
  · exact congrArg _ (congrArg _ (recvS_inj (SemLoc.dma.inj h)))

theorem kcell_injective : Function.Injective (kcell : Dev nD × Ck → GSem nD τ sig) := by
  rintro ⟨c, k⟩ ⟨c', k'⟩ h
  have h1 : c = c' := congrArg (fun g : GSem nD τ sig => g.1.1) h
  have h2 : k = k' := csem_injective (congrArg Prod.snd h)
  rw [h1, h2]

def allCells : Finset (GSem nD τ sig) := Finset.univ.map ⟨kcell, kcell_injective⟩

/-- The duties of a device's cells: the barrier's by offset, each send semaphore's one, each receive semaphore's one. -/
abbrev Tk : Type := Fin 16 ⊕ (Fin 16 ⊕ Fin 16)
abbrev tokKey : Tk → Ck × Fin 16 := Sum.elim (fun j => (.inl (), j)) (fun k => (.inr k, 0))
theorem tokKey_injective : Function.Injective tokKey := by
  rintro (a | a) (b | b) h
  · exact congrArg _ (congrArg Prod.snd h)
  · exact absurd (congrArg Prod.fst h) (by simp)
  · exact absurd (congrArg Prod.fst h) (by simp)
  · exact congrArg _ (Sum.inr.inj (congrArg Prod.fst h))
abbrev tokOf (cj : Dev nD × Tk) : GSem nD τ sig × ℕ × Fin 16 := (kcell (cj.1, (tokKey cj.2).1), 0, (tokKey cj.2).2)
theorem tokOf_injective : Function.Injective (tokOf : Dev nD × Tk → GSem nD τ sig × ℕ × Fin 16) := by
  rintro ⟨c, j⟩ ⟨c', j'⟩ h
  have h1 := kcell_injective (congrArg Prod.fst h)
  have h2 : j = j' := tokKey_injective (Prod.ext (congrArg Prod.snd h1) (congrArg (fun x : GSem nD τ sig × ℕ × Fin 16 => x.2.2) h))
  have hc : c = c' := congrArg (fun x : Dev nD × Ck => x.1) h1
  rw [hc, h2]
def allToks : Finset (GSem nD τ sig × ℕ × Fin 16) := Finset.univ.map ⟨tokOf, tokOf_injective⟩

def u₀ : UU :=
  (initOf (Pipeline.cells cfgs cellOf_inj) (Pipeline.launchToks cfgs cellOf_inj), initOf allCells allToks)

/-- The duty tokens of device `c`'s own cells. -/
def toks (c : Dev nD) : sProp 𝕄 :=
  iprop((bigSep Finset.univ fun j : Fin 16 => dutyTok ER (barCell c) 0 j)
    ∗ (bigSep Finset.univ fun o : Fin 16 => dutyTok ER (sendCell c o) 0 0)
    ∗ (bigSep Finset.univ fun o : Fin 16 => dutyTok ER (recvCell c o) 0 0))

def G (c : Dev nD) : sProp 𝕄 :=
  iprop((bigSep Finset.univ fun k : Ck => roundState ER (sched m) (kcell (c, k)) 0)
    ∗ (bigSep Finset.univ fun k : Ck => iprop(atPos ER (kcell (c, k)) 0 ∅ 0 ∗ reached ER (kcell (c, k)) 0)) ∗ toks c)
def G' (c : Dev nD) : sProp 𝕄 := iprop(∃ K, ghost m K c)

theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Ck => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [BI.bigSep_univ_sum, BI.bigSep_univ_sum]; rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem bigSep_Ck (Φ : Ck → sProp 𝕄) : bigSep Finset.univ Φ
    = iprop(Φ (.inl ()) ∗ (bigSep Finset.univ fun o : Fin 16 => Φ (.inr (.inl o))) ∗ (bigSep Finset.univ fun o : Fin 16 => Φ (.inr (.inr o)))) := by
  rw [BI.bigSep_univ_sum, BI.bigSep_univ_sum, Finset.univ_unique, bigSep_singleton]; rfl

omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun o : Fin 16 => semVal (sendCell c o) 0) ∗ (bigSep Finset.univ fun o : Fin 16 => semVal (recvCell c o) 0)) := by
  unfold Pipeline.ownSems0; rw [BI.bigSep_univ_sum]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Ck => semVal (kcell (c, k)) 0 : sProp 𝕄) := by
  rw [ownSems0_eq, unscopedSems0_eq, bigSep_Ck]
  iintro ⟨⟨HS, HV⟩, HB⟩
  isplitl [HB]; · iexact HB
  isplitl [HS]; · iexact HS
  iexact HV

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Ck => semVal (kcell (c, k)) 0) ∗ bigSep Finset.univ fun k : Ck => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt to the devices that pay with them -/

/-- (the cell's device, the duty) and (the paying device, its offset): a barrier's duty `j` is paid from `tgt c j` at the offset back; -/
def barE : Dev nD × Fin 16 ≃ Dev nD × Fin 16 where
  toFun p := (tgt p.1 p.2, neg p.2)
  invFun p := (tgt p.1 p.2, neg p.2)
  left_inv p := Prod.ext (tgt_neg p.1 p.2) (neg_neg p.2)
  right_inv p := Prod.ext (tgt_neg p.1 p.2) (neg_neg p.2)
/-- a receive semaphore's is paid from the same offset before. -/
def recvE : Dev nD × Fin 16 ≃ Dev nD × Fin 16 where
  toFun p := (tgt p.1 p.2, p.2)
  invFun p := (src p.1 p.2, p.2)
  left_inv p := Prod.ext (src_tgt p.1 p.2) rfl
  right_inv p := Prod.ext (tgt_src p.1 p.2) rfl

omit [FloatOps F] in
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    ← bigSep_univ_prod (fun p : Dev nD × Fin 16 => (dutyTok ER (barCell p.1) 0 p.2 : sProp 𝕄)),
    ← bigSep_univ_prod (fun p : Dev nD × Fin 16 => (dutyTok ER (recvCell p.1 p.2) 0 0 : sProp 𝕄)),
    ← bigSep_univ_prod (fun p : Dev nD × Fin 16 => (dutyTok ER (barCell (tgt p.1 p.2)) 0 (neg p.2) : sProp 𝕄)),
    ← bigSep_univ_prod (fun p : Dev nD × Fin 16 => (dutyTok ER (recvCell (tgt p.1 p.2) p.2) 0 0 : sProp 𝕄)),
    bigSep_univ_equiv barE (fun p : Dev nD × Fin 16 => (dutyTok ER (barCell p.1) 0 p.2 : sProp 𝕄)),
    bigSep_univ_equiv recvE (fun p : Dev nD × Fin 16 => (dutyTok ER (recvCell p.1 p.2) 0 0 : sProp 𝕄))]
  exact BI.Entails.refl _

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- A device's positions and the tokens it pays with. -/
def linear (c : Dev nD) : sProp 𝕄 := iprop((bigSep Finset.univ fun k : Ck => atPos ER (kcell (c, k)) 0 ∅ 0) ∗ payToks c)

theorem ghost_intro (K : Dev nD × Ck → ℕ) (c : Dev nD) : iprop(records m K ∗ linear c) ⊢ G' m c := by
  unfold linear G' ghost
  rw [bigSep_Ck]
  iintro ⟨HR, Hat, Ht⟩
  iexists K
  isplitl [HR]; · iexact HR
  isplitl [Hat]; · iexact Hat
  iexact Ht

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Ck => iprop(∃ κ : ℕ, cellInv ER (sched m) κ (kcell ck))),
    bigSep_congr (s := Finset.univ) (fun (c : Dev nD) _ => bigSep_sep' Finset.univ (fun k : Ck => (atPos ER (kcell (c, k)) 0 ∅ 0 : sProp 𝕄)) (fun k => reached ER (kcell (c, k)) 0)),
    bigSep_sep', ← bigSep_univ_prod (fun ck : Dev nD × Ck => (reached ER (kcell ck) 0 : sProp 𝕄))]
  iintro ⟨HI, ⟨Hat, #HR⟩, Htok⟩
  ihave HK := (BI.bigSep_exists_pi Finset.univ (fun (ck : Dev nD × Ck) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · unfold linear
    rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## What the others owe a device at the start -/

theorem bar_eq_iff {a b : Dev nD} : barCell a = barCell b ↔ a = b :=
  ⟨fun h => congrArg (fun g : GSem nD τ sig => g.1.1) h, fun h => h ▸ rfl⟩
theorem recv_eq_iff {a b : Dev nD} {o o' : Fin 16} : recvCell a o = recvCell b o' ↔ a = b ∧ o = o' :=
  ⟨fun h => ⟨congrArg (fun g : GSem nD τ sig => g.1.1) h, recvS_inj (SemLoc.dma.inj (congrArg Prod.snd h))⟩, fun ⟨h, h'⟩ => h ▸ h' ▸ rfl⟩
theorem bar_ne_recv (a b : Dev nD) (o : Fin 16) : barCell a ≠ recvCell b o := fun h => reg_ne_dma _ _ (congrArg Prod.snd h)

theorem sigOwe_bar (d c : Dev nD) : ∀ l : List (Fin 16), sigOwe d l (barCell c) () = (l.map fun o => if c = tgt d o then 1 else 0).sum
  | [] => rfl
  | o :: l => by
    show (sigOwe d l + tallyAt (barCell (tgt d o)) () 1 : CellTallies nD τ sig Unit) (barCell c) () = _
    rw [Pi.add_apply, Finsupp.add_apply, sigOwe_bar d c l, tallyAt_apply, List.map_cons, List.sum_cons, Nat.add_comm]
    simp only [bar_eq_iff, and_true]
theorem sendOwe_recv (d c : Dev nD) (o : Fin 16) : ∀ l : List (Fin 16), sendOwe d l (recvCell c o) () = N * (l.map fun o' => if c = tgt d o' ∧ o = o' then 1 else 0).sum
  | [] => rfl
  | o' :: l => by
    show (sendOwe d l + tallyAt (recvCell (tgt d o') o') () N : CellTallies nD τ sig Unit) (recvCell c o) () = _
    rw [Pi.add_apply, Finsupp.add_apply, sendOwe_recv d c o l, tallyAt_apply, List.map_cons, List.sum_cons, Nat.mul_add, Nat.add_comm]
    simp only [recv_eq_iff, and_true, mul_ite, mul_one, mul_zero]
theorem sendOwe_bar (d c : Dev nD) (l : List (Fin 16)) : sendOwe d l (barCell c) () = 0 :=
  Nat.eq_zero_of_not_pos fun h => by obtain ⟨a, o, e⟩ := sendOwe_pos d l h; exact bar_ne_recv _ _ _ e
theorem sigOwe_recv (d c : Dev nD) (o : Fin 16) (l : List (Fin 16)) : sigOwe d l (recvCell c o) () = 0 :=
  Nat.eq_zero_of_not_pos fun h => by obtain ⟨a, e⟩ := sigOwe_pos d l h; exact bar_ne_recv _ _ _ e.symm

theorem units_sum : ∀ c : Dev nD, ∑ d : Dev nD, (offs.map fun o => if c = tgt d o then 1 else 0).sum = 15 := by decide +kernel
theorem copies_sum : ∀ (c : Dev nD) (o : Fin 16), o ≠ 0 → ∑ d : Dev nD, (offs.map fun o' => if c = tgt d o' ∧ o = o' then 1 else 0).sum = 1 := by decide +kernel

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same]
  refine (Finset.sum_congr rfl fun d _ => ?_).trans (units_sum c)
  unfold O₀
  rw [Pi.add_apply, Finsupp.add_apply, sendOwe_bar, sigOwe_bar, Nat.zero_add]

theorem launch_recv (c : Dev nD) (o : Fin 16) (h : o ≠ 0) :
    tallyOn (recvCell c o) (launchCredit (Pipeline.owing O₀) 0 (recvCell c o)) = (tallyAt (recvCell c o) () N : CellTallies nD τ sig Unit) := by
  unfold tallyAt; refine congrArg _ (Finsupp.ext fun u => ?_); cases u
  rw [Pipeline.launchCredit_owing, Finsupp.single_eq_same]
  have e : ∀ d ∈ (Finset.univ : Finset (Dev nD)), O₀ d (recvCell c o) () = N * (offs.map fun o' => if c = tgt d o' ∧ o = o' then 1 else 0).sum := fun d _ => by
    unfold O₀
    rw [Pi.add_apply, Finsupp.add_apply, sigOwe_recv, sendOwe_recv, Nat.add_zero]
  rw [Finset.sum_congr rfl e, ← Finset.mul_sum, copies_sum c o h, Nat.mul_one]

def recvSem (o : Fin 16) : SemLoc sig := .dma (recvS o)
theorem recvSem_injective : Function.Injective recvSem := fun _ _ h => recvS_inj (SemLoc.dma.inj h)

omit [FloatOps F] in
theorem creds (c : Dev nD) :
    (Pipeline.launchCred O₀ c : sProp 𝕄) ⊢ iprop(cred (tallyAt (barCell c) () 15) ∗ starL (fun o => cred (tallyAt (recvCell c o) () N)) offs) := by
  unfold Pipeline.launchCred
  rw [bigSep_univ_at _ (SemLoc.reg barS), launch_bar, starL_offs]
  refine sep_mono_right ?_
  have hs : others.map ⟨recvSem, recvSem_injective⟩ ⊆ (Finset.univ : Finset (SemLoc sig)).erase (SemLoc.reg barS) := fun s hs => by
    obtain ⟨o, -, rfl⟩ := Finset.mem_map.mp hs
    exact Finset.mem_erase.mpr ⟨fun h => reg_ne_dma _ _ h.symm, Finset.mem_univ _⟩
  refine (BI.bigSep_subset hs).trans ?_
  rw [bigSep_map]
  exact bigSep_mono fun o ho => Entails.of_eq (congrArg cred (launch_recv c o (Finset.ne_of_mem_erase ho)))

/-! ## The sides of the launch theorem -/

/-- The router's weights, which the kernel never reads: kept aside through the run. -/
def aside (c : Dev nD) : sProp 𝕄 := at_ c main_arg1 (m ((c : Thread nD τ).loc main_arg1))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ aside m c) := by
  rw [Pipeline.unscopedRestP_none, unscopedRest0_eq]
  iintro ⟨Ha, Hlev, Hcr, -, HG⟩
  ihave Hc := (creds (F := F) c) $$ Hcr
  icases Hc with ⟨H1, HN⟩
  imodintro
  unfold start G' aside
  isplitr [Ha]
  · isplitl [HG]; · iexact HG
    isplitl [H1]; · iexact H1
    isplitl [HN]; · iexact HN
    iexact Hlev
  · iexact Ha

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ ownPts allPts
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m c from rfl, scopedRest0_eq, ownSems0_eq, unscopedSems0_eq]
  unfold Φ₁ ownPts allPts
  iintro ⟨⟨Ho, Ha⟩, HzB, HzS, HzR⟩
  isplitl [HzB]; · iexact HzB
  isplitl [HzS HzR]
  · isplitl [HzS] <;> iassumption
  isplitl [Ho]
  · iexists _; iexact Ho
  iexists _; iexact Ha

theorem stage_waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- After the run: device `c`'s window arrays as computed, the router's weights as they were. -/
def QC : PUnit × MemSt nD τ sig (Elt F) → Prop := fun r =>
  ∀ c : Dev nD, (∀ w : Fin cfg0.W, r.2.mem ((cfg0.win w).arr.view.loc (c : Thread nD τ)) = (dats m ρ 0 c).arrAt w cfg0.N)
    ∧ r.2.mem ((c : Thread nD τ).loc main_arg1) = m ((c : Thread nD τ).loc main_arg1)

set_option maxRecDepth 8000 in
/-- From any memory with zero counters every run of the kernel on the sixteen devices ends, in a state as `QC` says, with every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := stage_waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := aside m)
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => by
      unfold aside at_
      iintro ⟨Hu, Ha, HSI⟩
      ihave %h := (SI_pointsTo_agree) $$ [HSI Ha]
      · isplitl [HSI] <;> iassumption
      imod (Pipeline.unscopedSems0_read (X := unscopedSems0 c) (c := c) fupd_intro s') $$ [Hu HSI] with ⟨%h', HSI⟩
      · isplitl [Hu] <;> iassumption
      imodintro
      isplitr
      · ipureintro; exact ⟨h', funext fun i => h i (Finset.mem_univ i)⟩
      iexact HSI)
    (hQ := fun _ h hs => ⟨fun c => ⟨fun w => (h c).1 w, (h c).2.2.2⟩, sem_eq_zero hs fun c => (h c).2.2.1⟩)

end Cert.MoeProof

end
-- ==== Proof.Ends.lean ====
/- What the run leaves: the argument arrays as they were, the result array at what the body computed. -/
module

public import proofs.«01_k».proof.Proof.Launch
public import Idealize.ShloMosaic.Lib.Pipeline.ValueKit

@[expose] public section

noncomputable section

namespace Cert.MoeProof

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The result array of device `c` ends holding what its body wrote into the result block. -/
theorem final_out (c : Dev nD) : (dats m ρ 0 c).arrAt 3 cfg0.N = outB m c :=
  (dats m ρ 0 c).arrAt_eq_of_after_last (3 : Fin cfg0.W) (⟨0, by decide⟩ : Fin cfg0.N) (by decide +kernel) _ (fun _ => rfl)

/-- The final state of a run, device by device: the four argument arrays unchanged and the result array as computed. -/
def Ends (r : PUnit × MemSt nD τ sig (Elt F)) : Prop :=
  ∀ c : Dev nD, r.2.mem ((c.tc : Thread nD τ).loc main_v1) = outB m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)

theorem ends_of_QC {r : PUnit × MemSt nD τ sig (Elt F)} (h : QC m ρ r) : Ends m r := fun c =>
  ⟨((h c).1 3).trans (final_out m ρ c), ((h c).1 0).trans ((dats m ρ 0 c).arrAt_in 0 rfl _), (h c).2,
    ((h c).1 1).trans ((dats m ρ 0 c).arrAt_in 1 rfl _), ((h c).1 2).trans ((dats m ρ 0 c).arrAt_in 2 rfl _)⟩

/-- Every run of the kernel ends so, with every counter at zero. -/
theorem run_ends : θ_run defs (onTc (τ := τ) (main (F := F))) ⟨m, fun _ => 0, ρ⟩ (fun r => Ends m r ∧ r.2.sem = fun _ => 0) :=
  (θ_run defs _ _).mono (fun _ h => ⟨ends_of_QC m ρ h.1, h.2⟩) (run_main m ρ)

end Cert.MoeProof

end
-- ==== Proof.Frames.lean ====
/- The frames: each program ends, leaves its arguments as they were, and every counter at zero. -/
module

public import proofs.«01_k».proof.Defs
public import proofs.«01_k».proof.Proof.Gen.Kernel
public import proofs.«01_k».proof.Proof.Gen.ReferenceIdeal.Run
public import proofs.«01_k».proof.Proof.Ends
public import Idealize.ShloMosaic.Lib.Quiescent

@[expose] public section

noncomputable section

namespace Cert.MoeProof

open Idealize.ShloMosaic Idealize.SL.Sem

/-- The two prints of the kernel have the same body … -/
theorem defs0_eq : Cert.Kernel.defs₀ (F := Bits) = Cert.KernelIdeal.defs₀ (F := Bits) := by
  unfold Cert.Kernel.defs₀ Cert.KernelIdeal.defs₀
  refine congrArg Defs.onTc (funext fun l => funext fun x => ?_)
  match l, x with
  | 0, (t, s) => rfl

/-- … and so the same definitions. -/
theorem defs_eq : Cert.Kernel.defs (F := Bits) = Cert.KernelIdeal.defs (F := Bits) := by
  unfold Cert.Kernel.defs Cert.KernelIdeal.defs
  rw [defs0_eq]
  rfl

/-- The kernel at bit patterns. -/
theorem frame_kernel : Cert.quiescent_Kernel (hKernel := Cert.Kernel.Gen.facts) := by
  intro m g _
  rw [defs_eq]
  exact (θ_run Cert.KernelIdeal.defs _ _).mono (fun _ h => ⟨fun c => (h.1 c).2, h.2⟩) (run_ends (F := Bits) m g)

/-- The kernel over the extended reals. -/
theorem frame_kernelIdeal : Cert.quiescent_KernelIdeal (hKernelIdeal := Cert.KernelIdeal.Gen.facts) := fun m g _ =>
  (θ_run Cert.KernelIdeal.defs _ _).mono (fun _ h => ⟨fun c => (h.1 c).2, h.2⟩) (run_ends (F := Ideal) m g)

/-- A program of host operations on one device touches no counter. -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

end Cert.MoeProof

end
-- ==== Proof.Routes.lean ====
/-
# The ranks of the tokens among those of their expert
-/
module

public import proofs.«01_k».proof.Proof.Program
public import Idealize.ShloMosaic.Lib.Pointwise
public import Idealize.ShloMosaic.Lib.WordSum
public import Idealize.ShloMosaic.Lib.WordCmp
public import Idealize.ShloMosaic.Lib.IndicatorCount

@[expose] public section

noncomputable section

namespace Cert.MoeValue

open Cert.KernelIdeal Cert.KernelIdeal.Gen
open Cert.MoeProof
open Idealize.ShloMosaic Idealize.ShloMosaic.WordCmp

/-- Token `i`'s rank, from 1, among the tokens routed as it is. -/
def rank (r : IVec S512x1 32) (i : Fin 512) : ℕ := (Finset.univ.filter fun j : Fin 512 => r (ix2 i 0) = r (ix2 j 0) ∧ j ≤ i).card

/-- A rank is at least one: the token itself counts. -/
theorem rank_pos (r : IVec S512x1 32) (i : Fin 512) : 1 ≤ rank r i :=
  Finset.card_pos.2 ⟨i, by simp⟩

/-- A rank is at most the number of the tokens. -/
theorem rank_le (r : IVec S512x1 32) (i : Fin 512) : rank r i ≤ 512 :=
  (Finset.card_filter_le _ _).trans (by simp)

/-- Of two tokens of one route the later has the larger rank. -/
theorem rank_lt (r : IVec S512x1 32) {i j : Fin 512} (hr : r (ix2 i 0) = r (ix2 j 0)) (h : i < j) : rank r i < rank r j := by
  refine Finset.card_lt_card ⟨fun k hk => ?_, fun hs => ?_⟩
  · have hk := (Finset.mem_filter.1 hk).2
    exact Finset.mem_filter.2 ⟨Finset.mem_univ _, hr.symm.trans hk.1, hk.2.trans h.le⟩
  · have hj : j ∈ Finset.univ.filter fun k : Fin 512 => r (ix2 j 0) = r (ix2 k 0) ∧ k ≤ j := Finset.mem_filter.2 ⟨Finset.mem_univ _, rfl, le_refl _⟩
    exact absurd (Finset.mem_filter.1 (hs hj)).2.2 (not_le.2 h)

/-- Route and rank together name one token. -/
theorem rank_inj (r : IVec S512x1 32) {i j : Fin 512} (hr : r (ix2 i 0) = r (ix2 j 0)) (h : rank r i = rank r j) : i = j := by
  rcases lt_trichotomy i j with hl | he | hl
  · exact absurd h (rank_lt r hr hl).ne
  · exact he
  · exact absurd h.symm (rank_lt r hr.symm hl).ne

/-- The count that both programs make: over the tokens `x`, of those with a given route and a position at most `n`. -/
theorem count_word (r : IVec S512x1 32) (i : Fin 512) (n : ℕ) (hn : n = i.val) :
    Finset.fold IntOp.addi (0#32) (fun x : Fin 512 => BitVec.setWidth 32
      (IntOp.andi (IntOp.cmpi .eq (r (ix2 i 0)) (r (ix2 x 0))) (IntOp.cmpi .sle (BitVec.ofNat 32 x.val) (BitVec.ofNat 32 n)))) Finset.univ
      = BitVec.ofNat 32 (rank r i) := by
  subst hn
  rw [IndicatorCount.fold_addi_setWidth_eq_card]
  refine congrArg (fun s : Finset (Fin 512) => BitVec.ofNat 32 s.card) (Finset.filter_congr fun x _ => ?_)
  have hx := x.isLt
  have hi := i.isLt
  rw [cmpi_eq_eq, cmpi_sle_ofNat (by omega) (by omega), andi_ofBool, ofBool_eq_one_iff]
  simp

/-- The routes as a row. -/
theorem pay3_apply (r : Vec Ideal S512x1 .i32) (i : Fin 512) : k0_pay3 r (ix2 0 i) = r (ix2 i 0) := by
  pointwise [k0_pay3, k0_pay2]

/-- The kernel's rank of every token. -/
theorem pay4_apply (r : Vec Ideal S512x1 .i32) (i : Fin 512) : k0_pay4 r (ix2 0 i) = BitVec.ofNat 32 (rank r i) := by
  pointwise [k0_pay4, k0_pay3, k0_pay2]
  exact count_word r i _ rfl

/-- A row of the packing matrix stands for one more than its remainder by twelve. -/
theorem pay5_apply (q : Fin 24) (i : Fin 512) : k0_pay5 rowIdx (ix2 q i) = BitVec.ofNat 32 (q.val % 12 + 1) := by
  pointwise [k0_pay5, rowIdx]
  revert q
  decide

/-- And for the expert of its half. -/
theorem pay6_apply (r : Vec Ideal S512x1 .i32) (w : BitVec 32) (q : Fin 24) (i : Fin 512) :
    k0_pay6 w (k0_pay3 r) rowIdx (ix2 q i) = BitVec.ofBool (decide (r (ix2 i 0) = w + BitVec.ofNat 32 (q.val / 12))) := by
  rw [← pay3_apply r i]
  pointwise [k0_pay6, rowIdx]
  rw [cmpi_eq_eq]
  refine congrArg (fun b => BitVec.ofBool (decide (k0_pay3 r (ix2 0 i) = w + b))) ?_
  revert q
  decide

/-- A device's number and the number of its first expert, as words. -/
theorem devW_eq (c : Dev nD) : devW c = BitVec.ofNat 32 c.val := by revert c; decide
theorem expW_eq (c : Dev nD) : expW c = BitVec.ofNat 32 (2 * c.val) := by revert c; decide

/-- Token `i` is the one that row `q` of device `c`'s packing matrix stands for: its route is the row's expert and its rank the row's. -/
def Hot (c : Dev nD) (r : IVec S512x1 32) (q : Fin 24) (i : Fin 512) : Prop :=
  r (ix2 i 0) = BitVec.ofNat 32 (2 * c.val + q.val / 12) ∧ rank r i = q.val % 12 + 1

instance (c : Dev nD) (r : IVec S512x1 32) (q : Fin 24) (i : Fin 512) : Decidable (Hot c r q i) := inferInstanceAs (Decidable (_ ∧ _))

theorem Hot.unique {c : Dev nD} {r : IVec S512x1 32} {q : Fin 24} {i j : Fin 512} (hi : Hot c r q i) (hj : Hot c r q j) : i = j :=
  rank_inj r (hi.1.trans hj.1.symm) (hi.2.trans hj.2.symm)

/-- A one-bit word, widened and read as a number. -/
theorem sitofp_bit (b : Bool) : (FloatOps.sitofp FTy.f32 (BitVec.setWidth 32 (BitVec.ofBool b)) : Ideal .f32) = if b then 1 else 0 := by
  cases b
  · show (((BitVec.setWidth 32 (BitVec.ofBool false)).toInt : ℝ) : EReal) = 0
    have : (BitVec.setWidth 32 (BitVec.ofBool false)).toInt = 0 := by decide
    rw [this]; simp
  · show (((BitVec.setWidth 32 (BitVec.ofBool true)).toInt : ℝ) : EReal) = 1
    have : (BitVec.setWidth 32 (BitVec.ofBool true)).toInt = 1 := by decide
    rw [this]; simp

/-- A row of the packing product is the sum over the tokens, the row's own alone let through. -/
theorem pay7_apply (c : Dev nD) (r : Vec Ideal S512x1 .i32) (x : Vec Ideal S512x256 .f32) (q : Fin 24) (k : Fin 256) :
    k0_pay7 (k0_pay4 r) (k0_pay5 rowIdx) (k0_pay6 (expW c) (k0_pay3 r) rowIdx) x (ix2 q k) = ∑ i : Fin 512, if Hot c r q i then x (ix2 i k) else 0 := by
  pointwise [k0_pay7]
  refine Finset.sum_congr rfl fun i _ => ?_
  have hrk := rank_le r i
  have hq := q.isLt
  rw [pay6_apply, pay4_apply, pay5_apply, expW_eq, cmpi_eq_ofNat (by omega) (by omega), andi_ofBool, sitofp_bit, ← BitVec.ofNat_add]
  by_cases h : Hot c r q i
  · rw [if_pos h, if_pos (by simpa [Hot] using h)]
    exact one_mul (x (ix2 i k) : EReal)
  · rw [if_neg h, if_neg (by simpa [Hot] using h)]
    exact zero_mul (x (ix2 i k) : EReal)

/-- Where a token is the row's, the row of the product is that token's row. -/
theorem pay7_hot (c : Dev nD) (r : Vec Ideal S512x1 .i32) (x : Vec Ideal S512x256 .f32) (q : Fin 24) (k : Fin 256) (t : Fin 512) (h : Hot c r q t) :
    k0_pay7 (k0_pay4 r) (k0_pay5 rowIdx) (k0_pay6 (expW c) (k0_pay3 r) rowIdx) x (ix2 q k) = x (ix2 t k) := by
  rw [pay7_apply, Finset.sum_eq_single t, if_pos h]
  · exact fun j _ hj => if_neg fun hh => hj (hh.unique h)
  · exact fun hn => absurd (Finset.mem_univ t) hn

/-- A row of the first twelve that stands for token `t` is that token's row through the first expert, and … -/
theorem packLo_hot (c : Dev nD) (r : Vec Ideal S512x1 .i32) (x : Vec Ideal S512x256 .f32) (w : Vec Ideal S1x256x512 .f32) (p : Fin 12) (l : Fin 512) (t : Fin 512)
    (h : Hot c r ⟨p.val, by omega⟩ t) : packLo c r x w (ix2 p l) = ∑ k : Fin 256, (x (ix2 t k) : EReal) * w (ix3 0 k l) := by
  pointwise [packLo, k0_pay8]
  exact Finset.sum_congr rfl fun k _ => congrArg (fun z : EReal => z * w (ix3 0 k l)) (pay7_hot c r x _ k t h)

/-- … a row of the last twelve is its row through the second. -/
theorem packHi_hot (c : Dev nD) (r : Vec Ideal S512x1 .i32) (x : Vec Ideal S512x256 .f32) (w : Vec Ideal S1x256x512 .f32) (p : Fin 12) (l : Fin 512) (t : Fin 512)
    (h : Hot c r ⟨12 + p.val, by omega⟩ t) : packHi c r x w (ix2 p l) = ∑ k : Fin 256, (x (ix2 t k) : EReal) * w (ix3 0 k l) := by
  pointwise [packHi, k0_pay9]
  exact Finset.sum_congr rfl fun k _ => congrArg (fun z : EReal => z * w (ix3 0 k l)) (pay7_hot c r x _ k t h)

/-- The rank of a device's own token, the token's place among all being given as the device counts it. -/
theorem pay12_apply (c : Dev nD) (r : Vec Ideal S512x1 .i32) (rd : Vec Ideal S32x1 .i32) (j : Fin 32) (t : Fin 512) (ht : t.val = 32 * c.val + j.val)
    (hrd : rd (ix2 j 0) = r (ix2 t 0)) : k0_pay12 (devW c) (k0_pay3 r) rd (ix2 j 0) = BitVec.ofNat 32 (rank r t) := by
  pointwise [k0_pay12, k0_pay11]
  have hn : IntOp.addi (Scalar.muli (devW c) 32#32) (BitVec.ofNat 32 j.val) = BitVec.ofNat 32 (32 * c.val + j.val) := by
    have h : Scalar.muli (devW c) 32#32 = BitVec.ofNat 32 (32 * c.val) := by clear ht; revert c; decide
    rw [h]
    exact addi_ofNat _ _
  rw [hn, hrd]
  refine Eq.trans (congrArg (fun f => Finset.fold IntOp.addi (0#32) f Finset.univ) (funext fun x => ?_)) (count_word r t _ ht.symm)
  rw [pay3_apply]

/-- Where the row is in device `c`'s gathered rows that a token of route `v` and of rank `n` is sent to. -/
def place (c : Dev nD) (v n : ℕ) : ℕ := (c.val + 16 - v / 2) % 16 * 24 + v % 2 * 12 + (n - 1)

/-- The choosing matrix has a one where the token is kept, at the place of its route and rank. -/
theorem pick_apply (c : Dev nD) (r : Vec Ideal S512x1 .i32) (rd : Vec Ideal S32x1 .i32) (j : Fin 32) (q : Fin 384) (t : Fin 512)
    (ht : t.val = 32 * c.val + j.val) (hrd : rd (ix2 j 0) = r (ix2 t 0)) (v : Fin 32) (hv : r (ix2 t 0) = BitVec.ofNat 32 v.val) :
    pick c r rd (ix2 j q) = if q.val = place c v.val (rank r t) ∧ rank r t ≤ 12 then 1 else 0 := by
  pointwise [pick, k0_pay18, k0_pay17, k0_pay16, k0_pay15, k0_pay14, k0_pay13, k0_pay11]
  have hp := rank_pos r t
  have hl := rank_le r t
  rw [pay12_apply c r rd j t ht hrd, hrd, hv, cmpi_sle_ofNat (by omega) (by omega)]
  have hs : IntOp.subi (BitVec.ofNat 32 (rank r t)) 1#32 = BitVec.ofNat 32 (rank r t - 1) := by
    have h : rank r t = (rank r t - 1) + 1 := by omega
    rw [h, ← addi_ofNat]
    exact BitVec.add_sub_cancel _ _
  rw [hs]
  refine (congrArg (fun z => FloatOps.sitofp FTy.f32 (BitVec.setWidth 32 (IntOp.andi (IntOp.cmpi .eq (BitVec.ofNat 32 q.val) (IntOp.addi z _)) _)))
    (?_ : _ = BitVec.ofNat 32 ((c.val + 16 - v.val / 2) % 16 * 24 + v.val % 2 * 12))).trans ?_
  · clear hv hrd ht
    revert c v
    decide
  · have hq := q.isLt
    rw [addi_ofNat, cmpi_eq_ofNat (by omega) (by omega), andi_ofBool, sitofp_bit]
    refine if_congr ?_ rfl rfl
    rw [Bool.and_eq_true, decide_eq_true_eq, decide_eq_true_eq]
    rfl

end Cert.MoeValue

end
-- ==== Proof.Rows.lean ====
/-
# Each device's result, row by row
-/
module

public import proofs.«01_k».proof.Proof.Routes
public import proofs.«01_k».proof.Proof.Protocol

@[expose] public section

noncomputable section

namespace Cert.MoeValue

open Cert.KernelIdeal Cert.KernelIdeal.Gen
open Cert.MoeProof hiding ix2
open Idealize.ShloMosaic Idealize.ShloMosaic.WordCmp

variable (m : (ℓ : Loc nD τ sig) → Buf (Elt Ideal) ℓ)

/-! ## What the staging buffers hold -/

theorem ix2_same {a b : ℕ} (i : Fin a) (j : Fin b) : Cert.MoeProof.ix2 i j = ix2 i j := MoeProof.idx2_ext rfl rfl

theorem xS_eq (c : Dev nD) : xS m c = m ((c.tc : Thread nD τ).loc main_arg0) := by
  funext i
  refine congrArg (m ((c.tc : Thread nD τ).loc main_arg0)) (MoeProof.idx2_ext ?_ ?_)
  · show 0 * 512 + 1 * (i 0).val = (i 0).val
    omega
  · show 0 * 256 + 1 * (i 1).val = (i 1).val
    omega

theorem rS_eq (c : Dev nD) : rS m c = m ((c.tc : Thread nD τ).loc main_arg2) := by
  funext i
  refine congrArg (m ((c.tc : Thread nD τ).loc main_arg2)) (MoeProof.idx2_ext ?_ ?_)
  · show 0 * 512 + 1 * (i 0).val = (i 0).val
    omega
  · show 0 * 1 + 1 * (i 1).val = (i 1).val
    omega

theorem wS_eq (c : Dev nD) : wS m c = m ((c.tc : Thread nD τ).loc main_arg3) := by
  funext i
  refine congrArg (m ((c.tc : Thread nD τ).loc main_arg3)) (funext fun | ⟨0, _⟩ => Fin.ext ?_ | ⟨1, _⟩ => Fin.ext ?_ | ⟨2, _⟩ => Fin.ext ?_)
  · show 0 * 2 + 1 * (i 0).val = (i 0).val
    omega
  · show 0 * 256 + 1 * (i 1).val = (i 1).val
    omega
  · show 0 * 512 + 1 * (i 2).val = (i 2).val
    omega

theorem wLo_apply (c : Dev nD) (k : Fin 256) (l : Fin 512) : wLo m c (ix3 0 k l) = wS m c (ix3 0 k l) :=
  congrArg (wS m c) (funext fun | ⟨0, _⟩ => Fin.ext (Nat.zero_add _) | ⟨1, _⟩ => Fin.ext ((Nat.zero_add _).trans (Nat.one_mul _)) | ⟨2, _⟩ => Fin.ext ((Nat.zero_add _).trans (Nat.one_mul _)))

theorem wHi_apply (c : Dev nD) (k : Fin 256) (l : Fin 512) : wHi m c (ix3 0 k l) = wS m c (ix3 1 k l) :=
  congrArg (wS m c) (funext fun | ⟨0, _⟩ => Fin.ext rfl | ⟨1, _⟩ => Fin.ext ((Nat.zero_add _).trans (Nat.one_mul _)) | ⟨2, _⟩ => Fin.ext ((Nat.zero_add _).trans (Nat.one_mul _)))

theorem off1_eq (c : Dev nD) : k0_off1 c 0 = 32 * c.val ∧ k0_off1 c 1 = 0 := by revert c; decide

/-- Row `j` of a device's own routes is the route of the token that is `j` after the first of the device's. -/
theorem mine_apply (c : Dev nD) (j : Fin 32) (t : Fin 512) (ht : t.val = 32 * c.val + j.val) : rMineB m c (ix2 j 0) = rS m c (ix2 t 0) := by
  refine congrArg (rS m c) (MoeProof.idx2_ext ?_ ?_)
  · show k0_off1 c 0 + 1 * j.val = t.val
    rw [(off1_eq c).1]
    omega
  · show k0_off1 c 1 + 1 * 0 = 0
    rw [(off1_eq c).2]

/-! ## The packed rows -/

/-- The tokens, the weights and the device's result, as arrays of numbers. -/
abbrev xV (c : Dev nD) : Vec Ideal S512x256 .f32 := xS m c
abbrev wV (c : Dev nD) : Vec Ideal S2x256x512 .f32 := wS m c
abbrev outV (c : Dev nD) : Vec Ideal S32x512 .f32 := outB m c

/-- A packed row that stands for token `t` is that token's row through its expert. -/
theorem ownB_hot (d : Dev nD) (q : Fin 24) (l : Fin 512) (t : Fin 512) (e : Fin 2) (he : e.val = q.val / 12) (h : Hot d (rS m d) q t) :
    ownB m d (ix2 q l) = ∑ k : Fin 256, (xV m d (ix2 t k) : EReal) * wV m d (ix3 e k l) := by
  by_cases hq : q.val < 12
  · have e0 : e = 0 := Fin.ext (by show e.val = 0; omega)
    subst e0
    refine (dif_pos hq).trans ((congrArg (packLo d (rS m d) (xS m d) (wLo m d)) (ix2_same (⟨q.val, hq⟩ : Fin 12) l)).trans ?_)
    refine (packLo_hot d (rS m d) (xS m d) (wLo m d) ⟨q.val, hq⟩ l t h).trans (Finset.sum_congr rfl fun k _ => ?_)
    rw [wLo_apply]
  · have hlt := q.isLt
    have e1 : e = 1 := Fin.ext (by show e.val = 1; omega)
    subst e1
    refine (dif_neg hq).trans ((congrArg (packHi d (rS m d) (xS m d) (wHi m d)) (ix2_same (⟨q.val - 12, by omega⟩ : Fin 12) l)).trans ?_)
    have hh : Hot d (rS m d) ⟨12 + (q.val - 12), by omega⟩ t := by
      have : (⟨12 + (q.val - 12), by omega⟩ : Fin 24) = q := Fin.ext (by show 12 + (q.val - 12) = q.val; omega)
      rw [this]
      exact h
    refine (packHi_hot d (rS m d) (xS m d) (wHi m d) ⟨q.val - 12, by omega⟩ l t hh).trans (Finset.sum_congr rfl fun k _ => ?_)
    rw [wHi_apply]

/-! ## The result -/

variable {m}

/-- Row `j` of device `c`'s result, `t` being the token it is of and `v` that token's route: the token's row through expert `v`,
    which device `d` holds, where the token's rank is at most twelve; else zero. -/
theorem outB_apply (R : IVec S512x1 32) (hR : ∀ c, rS m c = R) (X : Vec Ideal S512x256 .f32) (hX : ∀ c, xS m c = X)
    (c : Dev nD) (j : Fin 32) (l : Fin 512) (t : Fin 512) (ht : t.val = 32 * c.val + j.val) (v : Fin 32) (hv : R (ix2 t 0) = BitVec.ofNat 32 v.val)
    (d : Dev nD) (hd : d.val = v.val / 2) (e : Fin 2) (he : e.val = v.val % 2) :
    outV m c (ix2 j l) = if rank R t ≤ 12 then ∑ k : Fin 256, (X (ix2 t k) : EReal) * wV m d (ix3 e k l) else 0 := by
  have hc : c.val < 16 := c.isLt
  have hvl := v.isLt
  have hp := rank_pos R t
  have h0 : outV m c (ix2 j l) = ∑ q : Fin 384, (pick c (rS m c) (rMineB m c) (ix2 j q) : EReal) * allB m c (ix2 q l) := by
    show k0_pay1 _ _ (ix2 j l) = _
    pointwise [k0_pay1]
  have h1 : ∀ q : Fin 384, (pick c (rS m c) (rMineB m c) (ix2 j q) : EReal) = if q.val = place c v.val (rank R t) ∧ rank R t ≤ 12 then 1 else 0 := fun q => by
    have h := pick_apply c (rS m c) (rMineB m c) j q t ht (mine_apply m c j t ht) v (by rw [hR]; exact hv)
    rw [h, hR]
  rw [h0]
  by_cases hk : rank R t ≤ 12
  · rw [if_pos hk]
    have hlt : place c v.val (rank R t) < 384 := by unfold place; omega
    rw [Finset.sum_eq_single ⟨place c v.val (rank R t), hlt⟩]
    · rw [h1, if_pos ⟨rfl, hk⟩, one_mul]
      have hs : src c ⟨place c v.val (rank R t) / 24, by omega⟩ = d := Fin.ext (by
        rw [hd]
        unfold place
        show (c.val + (16 - _ / 24)) % 16 = v.val / 2
        omega)
      show ownB m (src c ⟨place c v.val (rank R t) / 24, by omega⟩) (MoeProof.ix2 ⟨place c v.val (rank R t) % 24, by omega⟩ l) = _
      rw [hs, ix2_same, ownB_hot m d _ l t e, show xV m d = X from hX d]
      · rw [he]; unfold place; show _ = _ % 24 / 12; omega
      · rw [hR]
        refine ⟨hv.trans (congrArg (BitVec.ofNat 32) ?_), ?_⟩
        · unfold place; show v.val = 2 * d.val + _ % 24 / 12; omega
        · unfold place; show _ = _ % 24 % 12 + 1; omega
    · intro q _ hq
      rw [h1, if_neg (fun hh => hq (Fin.ext hh.1)), zero_mul]
    · exact fun hn => absurd (Finset.mem_univ _) hn
  · rw [if_neg hk]
    exact Finset.sum_eq_zero fun q _ => by rw [h1, if_neg (fun hh => hk hh.2), zero_mul]

end Cert.MoeValue

end
-- ==== Proof.Dense.lean ====
/-
# The reference's result, entry by entry
-/
module

public import proofs.«01_k».proof.Proof.Routes
public import proofs.«01_k».proof.Proof.Gen.ReferenceIdeal.Run
public import Idealize.ShloMosaic.Lib.Routing.Ops
public import Idealize.ShloMosaic.Lib.ShapeFacts

@[expose] public section

noncomputable section

namespace Cert.MoeDense

open Cert.ReferenceIdeal Cert.ReferenceIdeal.Gen Cert.MoeValue
open Idealize.ShloMosaic Idealize.ShloMosaic.WordCmp

/-! ## The running count -/

abbrev Win : Shape := ⟨2, ![512, 1]⟩

theorem win_numel : Win.numel = 512 := Shape.numel_rank2 _

theorem win_symm (n : Fin Win.numel) : (Win.rowMajor.symm n 0).val = n.val ∧ (Win.rowMajor.symm n 1).val = 0 := by
  have h1 : (Win.rowMajor.symm n 1).val < 1 := (Win.rowMajor.symm n 1).isLt
  have h := Shape.rowMajor_val_two (Win.rowMajor.symm n)
  rw [Equiv.apply_symm_apply] at h
  change n.val = (Win.rowMajor.symm n 0).val * 1 + (Win.rowMajor.symm n 1).val at h
  omega

/-- The running sum down a column of ones and zeros counts the ones so far. -/
theorem running (x : IVec S512x32 32) (b : Fin 512 → Fin 32 → Prop) [∀ i e, Decidable (b i e)] (hx : ∀ i e, x (ix2 i e) = BitVec.ofNat 32 (if b i e then 1 else 0))
    (init : IVec S_ 32) (hinit : ∀ i, init i = 0#32) (h : S512x32.ReduceWindows (![512, 1] : Fin 2 → Nat) ![1, 1] ![511, 0] ![0, 0] S512x32) (hu : 0 < S_.numel)
    (t : Fin 512) (e : Fin 32) :
    Host.reduceWindow IntOp.addi ![512, 1] ![1, 1] ![511, 0] ![0, 0] x init h hu (ix2 t e)
      = BitVec.ofNat 32 (Finset.univ.filter fun j : Fin 512 => b j e ∧ j ≤ t).card := by
  have ht := t.isLt
  unfold Host.reduceWindow
  refine (Routing.foldl_addi_ofNat _ _ (fun n : Fin Win.numel => if ∃ j : Fin 512, j.val + 511 = t.val + n.val ∧ b j e then 1 else 0) (fun n _ => ?_) _ 0 (hinit _)).trans ?_
  · obtain ⟨w0, w1⟩ := win_symm n
    have hn : n.val < 512 := lt_of_lt_of_eq n.isLt win_numel
    dsimp only
    split
    · next hin =>
      have h0 : 511 ≤ t.val * 1 + (Win.rowMajor.symm n 0).val ∧ t.val * 1 + (Win.rowMajor.symm n 0).val - 511 < 512 := hin 0
      rw [w0] at h0
      refine (congrArg x (?_ : _ = ix2 (⟨t.val + n.val - 511, by omega⟩ : Fin 512) e)).trans ((hx _ _).trans (congrArg (BitVec.ofNat 32) (if_congr ?_ rfl rfl)))
      · funext a
        match a with
        | ⟨0, _⟩ =>
          refine Fin.ext ?_
          show t.val * 1 + (Win.rowMajor.symm n 0).val - 511 = t.val + n.val - 511
          rw [w0, Nat.mul_one]
        | ⟨1, _⟩ =>
          refine Fin.ext ?_
          show e.val * 1 + (Win.rowMajor.symm n 1).val - 0 = e.val
          rw [w1, Nat.mul_one, Nat.add_zero, Nat.sub_zero]
      · constructor
        · exact fun hb => ⟨⟨t.val + n.val - 511, by omega⟩, by show t.val + n.val - 511 + 511 = _; omega, hb⟩
        · rintro ⟨j, hj, hb⟩
          have : j = ⟨t.val + n.val - 511, by omega⟩ := Fin.ext (by show j.val = t.val + n.val - 511; omega)
          exact this ▸ hb
    · next hin =>
      rw [if_neg]
      · exact hinit _
      · rintro ⟨j, hj, _⟩
        have hjl := j.isLt
        refine hin fun a => ?_
        match a with
        | ⟨0, _⟩ =>
          show 511 ≤ t.val * 1 + (Win.rowMajor.symm n 0).val ∧ t.val * 1 + (Win.rowMajor.symm n 0).val - 511 < 512
          rw [w0]
          omega
        | ⟨1, _⟩ =>
          show 0 ≤ e.val * 1 + (Win.rowMajor.symm n 1).val ∧ e.val * 1 + (Win.rowMajor.symm n 1).val - 0 < 32
          rw [w1]
          have := e.isLt
          omega
  · refine congrArg (BitVec.ofNat 32) ?_
    rw [Nat.zero_add, ← Fin.sum_univ_def, Finset.sum_boole, Nat.cast_id]
    refine (Finset.card_bij (fun j hj => (⟨j.val + 511 - t.val, by
      have := Fin.le_def.1 (Finset.mem_filter.1 hj).2.2
      rw [win_numel]
      omega⟩ : Fin Win.numel)) ?_ ?_ ?_).symm
    · intro j hj
      obtain ⟨hb, hle⟩ := (Finset.mem_filter.1 hj).2
      have hle := Fin.le_def.1 hle
      exact Finset.mem_filter.2 ⟨Finset.mem_univ _, j, by show j.val + 511 = t.val + (j.val + 511 - t.val); omega, hb⟩
    · intro j hj k hk hjk
      have hj := Fin.le_def.1 (Finset.mem_filter.1 hj).2.2
      have hk := Fin.le_def.1 (Finset.mem_filter.1 hk).2.2
      have : j.val + 511 - t.val = k.val + 511 - t.val := congrArg Fin.val hjk
      exact Fin.ext (by omega)
    · intro n hn
      obtain ⟨j, hj, hb⟩ := (Finset.mem_filter.1 hn).2
      have hnl : n.val < 512 := lt_of_lt_of_eq n.isLt win_numel
      exact ⟨j, Finset.mem_filter.2 ⟨Finset.mem_univ _, hb, Fin.le_def.2 (by omega)⟩, Fin.ext (by show j.val + 511 - t.val = n.val; omega)⟩

/-! ## The result -/

/-- Whether a token is routed to an expert, token by token and expert by expert. -/
def hits (r : IVec S512x1 32) : IVec S512x32 1 :=
  cmpi CmpIPredicate.eq (broadcastInDim S512x32 ![0, 1] bcast_S512x1_S512x32_0_1 r)
    (broadcastInDim S512x32 ![0, 1] bcast_S1x32_S512x32_0_1 (broadcastInDim S1x32 ![1] bcast_S32_S1x32_1 (iotaInDim S32 32 0)))

theorem hits_apply (r : IVec S512x1 32) (t : Fin 512) (e : Fin 32) : hits r (ix2 t e) = BitVec.ofBool (decide (r (ix2 t 0) = BitVec.ofNat 32 e.val)) := by
  pointwise [hits]
  rw [cmpi_eq_eq]

/-- How many tokens so far are routed to an expert. -/
def counts (r : IVec S512x1 32) : IVec S512x32 32 :=
  Host.reduceWindow IntOp.addi ![512, 1] ![1, 1] ![511, 0] ![0, 0] (extui 32 (hits r) natLt_1_32) (broadcastInDim S_ ![] bcast_S_S_ (constantI S_ 32 0#32))
    reduceWindows_S512x32_S512x32_w512s1p511_0_w1s1p0_0 h_S_

theorem counts_apply (r : IVec S512x1 32) (t : Fin 512) (e : Fin 32) :
    counts r (ix2 t e) = BitVec.ofNat 32 (Finset.univ.filter fun j : Fin 512 => r (ix2 j 0) = BitVec.ofNat 32 e.val ∧ j ≤ t).card := by
  refine running _ (fun j e => r (ix2 j 0) = BitVec.ofNat 32 e.val) (fun i e => ?_) _ (fun _ => rfl) _ _ t e
  show BitVec.setWidth 32 (hits r (ix2 i e)) = _
  rw [hits_apply]
  by_cases h : r (ix2 i 0) = BitVec.ofNat 32 e.val
  · rw [if_pos h, decide_eq_true h]; decide
  · rw [if_neg h, decide_eq_false h]; decide

/-- The reference's result. -/
def dense (x : FVec Ideal S512x256 .f32) (r : IVec S512x1 32) (w : FVec Ideal S32x256x512 .f32) : FVec Ideal S512x512 .f32 :=
  Host.reduceAdd
    (select
      (broadcastInDim S512x32x512 ![0, 1, 2] bcast_S512x32x1_S512x32x512_0_1_2
        (broadcastInDim S512x32x1 ![0, 1] bcast_S512x32_S512x32x1_0_1
          (andi (hits r) (cmpi CmpIPredicate.sle (counts r) (broadcastInDim S512x32 ![] bcast_S_S512x32 (constantI S_ 32 12#32))))))
      (Host.dotGeneral dot_S512x256_S32x256x512_S512x32x512_1_1_0_02_n_n none x w)
      (broadcastInDim S512x32x512 ![] bcast_S_S512x32x512 (id (constant S_ FTy.f32 0#32))))
    (constant S_ FTy.f32 0#32) reducesTo_S512x32x512_S512x512_d1 h_S_

theorem dense_apply (x : FVec Ideal S512x256 .f32) (r : IVec S512x1 32) (w : FVec Ideal S32x256x512 .f32) (t l : Fin 512) (v : Fin 32)
    (hv : r (ix2 t 0) = BitVec.ofNat 32 v.val) :
    dense x r w (ix2 t l) = if rank r t ≤ 12 then ∑ k : Fin 256, (x (ix2 t k) : EReal) * w (ix3 v k l) else 0 := by
  pointwise [dense]
  have hz : (id (constant S_ FTy.f32 0#32) ix0 : Ideal .f32) = (0 : EReal) := Ideal.ofBits_zero_f32
  have hvl := v.isLt
  have hc : ∀ e : Fin 32, IntOp.andi (hits r (ix2 t e)) (IntOp.cmpi CmpIPredicate.sle (counts r (ix2 t e)) 12#32)
      = BitVec.ofBool (decide (e = v ∧ rank r t ≤ 12)) := fun e => by
    have hel := e.isLt
    have hcard : (Finset.univ.filter fun j : Fin 512 => r (ix2 j 0) = BitVec.ofNat 32 e.val ∧ j ≤ t).card ≤ 512 := (Finset.card_filter_le _ _).trans (by simp)
    rw [hits_apply, counts_apply, cmpi_sle_ofNat (by omega) (by omega), andi_ofBool, hv]
    refine congrArg BitVec.ofBool ?_
    rw [Bool.decide_and]
    by_cases he : e = v
    · subst he
      have hr : (Finset.univ.filter fun j : Fin 512 => r (ix2 j 0) = BitVec.ofNat 32 e.val ∧ j ≤ t).card = rank r t := by
        refine congrArg Finset.card (Finset.filter_congr fun j _ => ?_)
        rw [hv]
        exact and_congr_left fun _ => eq_comm
      rw [hr]
      simp
    · have hne : ¬BitVec.ofNat 32 v.val = BitVec.ofNat 32 e.val := fun h =>
        he (Fin.ext ((ofNat_eq_ofNat_iff (by omega) (by omega)).1 h).symm)
      simp [he, hne]
  rw [Finset.sum_eq_single v]
  · rw [hc, select_decide, hz]
    exact if_congr (and_iff_right rfl) rfl rfl
  · intro e _ he
    rw [hc, select_decide, if_neg (fun h => he h.1), hz]
  · exact fun hn => absurd (Finset.mem_univ v) hn

end Cert.MoeDense

end
-- ==== Proof.Algebra.lean ====
/-
# The kernel computes what the reference does

Over the extended reals, where every token's route names an expert: each device ends with its block of the
reference's result.
-/
module

public import proofs.«01_k».proof.Proof.Rows
public import proofs.«01_k».proof.Proof.Dense
public import proofs.«01_k».proof.Proof.Frames
public import Idealize.ShloMosaic.Lib.ReduceAll

@[expose] public section

noncomputable section

namespace Cert.MoeValue

open Cert.KernelIdeal Cert.MoeDense
open Cert.MoeProof hiding ix2
open Idealize.ShloMosaic Idealize.ShloMosaic.WordCmp Idealize.SL.Sem

/-! ## The precondition -/

theorem routed_kernel_facts : Cert.Pre_routed_KernelIdeal.Facts := ⟨by decide, by decide, by decide⟩
theorem routed_reference_facts : Cert.Pre_routed_ReferenceIdeal.Facts := ⟨by decide, by decide, by decide⟩

/-- The precondition says of every token that its route is the number of an expert. -/
theorem route_of_pre [Cert.Pre_routed_KernelIdeal.Facts] (x : FVec Ideal S512x256 .f32) (g : FVec Ideal ⟨2, ![256, 32]⟩ .f32) (r : IVec S512x1 32) (w : FVec Ideal S2x256x512 .f32)
    (h : Cert.Pre_routed_KernelIdeal.fn (F := Ideal) x g r w = fun _ => 1#1) (t : Fin 512) : ∃ v : Fin 32, r (ix2 t 0) = BitVec.ofNat 32 v.val := by
  have : Subsingleton Cert.Pre_routed_KernelIdeal.S_.Idx := ⟨fun a b => funext fun i => i.elim0⟩
  have h1 := Host.reduce_andi_all _ _ _ _ _ (congrFun h (Shape.Idx.first (Cert.Pre_routed_KernelIdeal.Facts.h_S_))) (ix2 t 0)
  have h2 : IntOp.andi (IntOp.cmpi .sge (r (ix2 t 0)) 0#32) (IntOp.cmpi .slt (r (ix2 t 0)) (BitVec.ofNat 32 32)) = 1#1 := h1
  rw [andi_sge_zero_slt_ofNat (by decide), ofBool_decide_eq_one_iff] at h2
  exact ⟨⟨(r (ix2 t 0)).toNat, h2⟩, by simp⟩

/-! ## The blocks -/

/-- Each device's result is its block of the reference's. -/
theorem out_eq_block (m : (ℓ : Loc nD τ sig) → Buf (Elt Ideal) ℓ) (X : FVec Ideal S512x256 .f32) (R : IVec S512x1 32) (W : FVec Ideal ⟨3, ![32, 256, 512]⟩ .f32)
    (hX : ∀ c : Dev nD, xS m c = X) (hR : ∀ c : Dev nD, rS m c = R) (hW : ∀ c : Dev nD, wV m c = Layout.block ⟨3, ![2, 256, 512]⟩ ⟨3, ![32, 256, 512]⟩ 0 16 c W)
    (hroute : ∀ t : Fin 512, ∃ v : Fin 32, R (ix2 t 0) = BitVec.ofNat 32 v.val) (c : Dev nD) :
    outV m c = Layout.block ⟨2, ![32, 512]⟩ ⟨2, ![512, 512]⟩ 0 16 c (dense X R W) := by
  funext i
  have hc : c.val < 16 := c.isLt
  obtain ⟨j, l, rfl⟩ : ∃ (j : Fin 32) (l : Fin 512), i = ix2 j l := ⟨i 0, i 1, (ix2_eta i).symm⟩
  have hj := j.isLt
  obtain ⟨v, hv⟩ := hroute ⟨32 * c.val + j.val, by omega⟩
  have hvl := v.isLt
  have hd : v.val / 2 < 16 := by omega
  rw [outB_apply R hR X hX c j l ⟨32 * c.val + j.val, by omega⟩ rfl v hv ⟨v.val / 2, hd⟩ rfl ⟨v.val % 2, by omega⟩ rfl, Layout.block_apply]
  refine Eq.trans ?_ ((dense_apply X R W ⟨32 * c.val + j.val, by omega⟩ l v hv).symm.trans (congrArg (dense X R W) ?_))
  · refine if_congr Iff.rfl (Finset.sum_congr rfl fun k _ => congrArg (fun z : EReal => (X (ix2 _ k) : EReal) * z) ?_) rfl
    rw [hW, Layout.block_apply]
    refine congrArg W (funext fun a => Fin.ext ?_)
    match a with
    | ⟨0, _⟩ =>
      show v.val / 2 * 2 + v.val % 2 = v.val
      omega
    | ⟨1, _⟩ => rfl
    | ⟨2, _⟩ => rfl
  · funext a
    refine Fin.ext ?_
    match a with
    | ⟨0, _⟩ =>
      show 32 * c.val + j.val = c.val * 32 + j.val
      omega
    | ⟨1, _⟩ => rfl

/-! ## The claim -/

theorem algebraic : Cert.algebraic_KernelIdeal_ReferenceIdeal_pre_routed_KernelIdeal (hKernelIdeal := Cert.KernelIdeal.Gen.facts)
    (hReferenceIdeal := Cert.ReferenceIdeal.Gen.facts) (hPre_routed_KernelIdeal := routed_kernel_facts) := by
  intro m g m' g' hpre hin
  let M0 := m' (((0 : Dev Cert.ReferenceIdeal.nD).tc : Thread Cert.ReferenceIdeal.nD Cert.ReferenceIdeal.τ).loc Cert.ReferenceIdeal.main_arg0)
  let M2 := m' (((0 : Dev Cert.ReferenceIdeal.nD).tc : Thread Cert.ReferenceIdeal.nD Cert.ReferenceIdeal.τ).loc Cert.ReferenceIdeal.main_arg2)
  let M3 := m' (((0 : Dev Cert.ReferenceIdeal.nD).tc : Thread Cert.ReferenceIdeal.nD Cert.ReferenceIdeal.τ).loc Cert.ReferenceIdeal.main_arg3)
  have hroute : ∀ t : Fin 512, ∃ v : Fin 32, (M2 : IVec S512x1 32) (ix2 t 0) = BitVec.ofNat 32 v.val := fun t => by
    have h := @route_of_pre routed_kernel_facts _ _ _ _ (hpre 0) t
    rw [(hin 0).2.2.1] at h
    exact h
  have hout : ∀ c : Dev nD, outB m c = Layout.block ⟨2, ![32, 512]⟩ ⟨2, ![512, 512]⟩ 0 16 c (dense M0 M2 M3) := fun c =>
    out_eq_block m M0 M2 M3 (fun c => (xS_eq m c).trans (hin c).1) (fun c => (rS_eq m c).trans (hin c).2.2.1) (fun c => (wS_eq m c).trans (hin c).2.2.2) hroute c
  exact ⟨dense M0 M2 M3,
    (θ_run Cert.KernelIdeal.defs _ _).mono (fun _ h c => ⟨(h.1 c).1.trans (hout c), (h.1 c).2⟩) (run_ends (F := Ideal) m g),
    (θ_run Cert.ReferenceIdeal.defs _ _).mono (fun _ h => h 0) (Cert.ReferenceIdeal.Value.run (F := Ideal) m' g')⟩

/-! ## The frames under the precondition -/

theorem frame_kernel_routed : Cert.quiescent_KernelIdeal_pre_routed_KernelIdeal (hKernelIdeal := Cert.KernelIdeal.Gen.facts)
    (hPre_routed_KernelIdeal := routed_kernel_facts) := fun m g _ => frame_kernelIdeal m g trivial

theorem frame_reference_routed : Cert.quiescent_ReferenceIdeal_pre_routed_ReferenceIdeal (hReferenceIdeal := Cert.ReferenceIdeal.Gen.facts)
    (hPre_routed_ReferenceIdeal := routed_reference_facts) := fun m g _ => frame_reference m g trivial

end Cert.MoeValue

end
-- ==== Proof.lean ====
/- The proof of the claim: the side conditions of the three programs and of the precondition, then each claim in turn. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebra
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.MoeValue.routed_kernel_facts, Cert.MoeValue.routed_reference_facts,
  Cert.MoeProof.frame_kernel, Cert.MoeProof.frame_kernelIdeal, Cert.MoeValue.frame_kernel_routed,
  Cert.MoeProof.frame_reference, Cert.MoeValue.frame_reference_routed, trivial, Cert.MoeValue.algebraic⟩

end Cert.Proof

end
